-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S16x128x4096 : Shape := ⟨3, ![16, 128, 4096]⟩
abbrev S16x1x1024 : Shape := ⟨3, ![16, 1, 1024]⟩
abbrev S16x1024 : Shape := ⟨2, ![16, 1024]⟩
abbrev S128x128x1 : Shape := ⟨3, ![128, 128, 1]⟩
abbrev S128 : Shape := ⟨1, ![128]⟩
abbrev S128x128x3 : Shape := ⟨3, ![128, 128, 3]⟩
abbrev S4x128 : Shape := ⟨2, ![4, 128]⟩
abbrev S4 : Shape := ⟨1, ![4]⟩
abbrev S_ : Shape := ⟨0, ![]⟩

class Facts : Prop where
  bcast_S_S16x1x1024 : S_.BroadcastsInDim S16x1x1024 (![] : Fin 0 → Fin S16x1x1024.rank)
  reducesTo_S16x1x1024_S_d0_1_2 : S16x1x1024.ReducesTo [0, 1, 2] S_
  h_S_ : 0 < S_.numel
  bcast_S_S16x1024 : S_.BroadcastsInDim S16x1024 (![] : Fin 0 → Fin S16x1024.rank)
  reducesTo_S16x1024_S_d0_1 : S16x1024.ReducesTo [0, 1] S_

variable [Facts]

def fn {F : FTy → Type} [FloatOps F] (main_arg0 : FVec F S16x128x4096 .f32) (main_arg1 : FVec F S16x1x1024 .f32) (main_arg2 : IVec S16x1024 32) (main_arg3 : FVec F S128x128x1 .f32) (main_arg4 : FVec F S128 .f32) (main_arg5 : FVec F S128x128x3 .f32) (main_arg6 : FVec F S128 .f32) (main_arg7 : FVec F S128 .f32) (main_arg8 : FVec F S128 .f32) (main_arg9 : FVec F S128x128x3 .f32) (main_arg10 : FVec F S128 .f32) (main_arg11 : FVec F S128 .f32) (main_arg12 : FVec F S128 .f32) (main_arg13 : FVec F S4x128 .f32) (main_arg14 : FVec F S4 .f32) : IVec S_ 1 :=
  let main_cst : FVec F S_ .f32 := constant S_ .f32 0x3F800000#32
  let main_v0 : FVec F S16x1x1024 .f32 := broadcastInDim S16x1x1024 ![] bcast_S_S16x1x1024 main_cst
  let main_v1 : IVec S16x1x1024 1 := cmpf .oeq main_arg1 main_v0
  let main_c : IVec S_ 1 := constantI S_ 1 1#1
  let main_v2 : IVec S_ 1 := (fun x v => Host.reduce IntOp.andi x v reducesTo_S16x1x1024_S_d0_1_2 h_S_) main_v1 main_c
  let main_c_0 : IVec S_ 32 := constantI S_ 32 0#32
  let main_v3 : IVec S16x1024 32 := broadcastInDim S16x1024 ![] bcast_S_S16x1024 main_c_0
  let main_v4 : IVec S16x1024 1 := cmpi .sge main_arg2 main_v3
  let main_c_1 : IVec S_ 32 := constantI S_ 32 1048576#32
  let main_v5 : IVec S16x1024 32 := broadcastInDim S16x1024 ![] bcast_S_S16x1024 main_c_1
  let main_v6 : IVec S16x1024 1 := cmpi .sle main_arg2 main_v5
  let main_v7 : IVec S16x1024 1 := andi main_v4 main_v6
  let main_c_2 : IVec S_ 1 := constantI S_ 1 1#1
  let main_v8 : IVec S_ 1 := (fun x v => Host.reduce IntOp.andi x v reducesTo_S16x1024_S_d0_1 h_S_) main_v7 main_c_2
  let main_v9 : IVec S_ 1 := andi main_v2 main_v8
  main_v9
-- ==== Kernel.lean ====
abbrev S16x128x4096 : Shape := ⟨3, ![16, 128, 4096]⟩
abbrev S16x1x1024 : Shape := ⟨3, ![16, 1, 1024]⟩
abbrev S16x1024 : Shape := ⟨2, ![16, 1024]⟩
abbrev S128x128x1 : Shape := ⟨3, ![128, 128, 1]⟩
abbrev S128 : Shape := ⟨1, ![128]⟩
abbrev S128x128x3 : Shape := ⟨3, ![128, 128, 3]⟩
abbrev S4x128 : Shape := ⟨2, ![4, 128]⟩
abbrev S4 : Shape := ⟨1, ![4]⟩
abbrev S128x128 : Shape := ⟨2, ![128, 128]⟩
abbrev S3x128x128 : Shape := ⟨3, ![3, 128, 128]⟩
abbrev S16x4x1024 : Shape := ⟨3, ![16, 4, 1024]⟩
abbrev S1x128x4096 : Shape := ⟨3, ![1, 128, 4096]⟩
abbrev S1x1x1024 : Shape := ⟨3, ![1, 1, 1024]⟩
abbrev S1x4x1024 : Shape := ⟨3, ![1, 4, 1024]⟩
abbrev S128x4096 : Shape := ⟨2, ![128, 4096]⟩
abbrev S1024 : Shape := ⟨1, ![1024]⟩
abbrev S1024x1024 : Shape := ⟨2, ![1024, 1024]⟩
abbrev S1x1024 : Shape := ⟨2, ![1, 1024]⟩
abbrev S128x1024 : Shape := ⟨2, ![128, 1024]⟩
abbrev S128x1 : Shape := ⟨2, ![128, 1]⟩
abbrev S1x128x128 : Shape := ⟨3, ![1, 128, 128]⟩
abbrev S4x1024 : Shape := ⟨2, ![4, 1024]⟩
abbrev S4x1 : Shape := ⟨2, ![4, 1]⟩

abbrev nBuf : Space → Nat
  | .hbm => 20
  | .vmem => 18
  | .smem => 0
  | _ => 0

abbrev bufTy : (tb : Table) → Fin (tcTables nBuf tb) → BufTy
  | .hbm, ⟨0, _⟩ => ⟨S16x128x4096, .f32⟩
  | .hbm, ⟨1, _⟩ => ⟨S16x1x1024, .f32⟩
  | .hbm, ⟨2, _⟩ => ⟨S16x1024, .i32⟩
  | .hbm, ⟨3, _⟩ => ⟨S128x128x1, .f32⟩
  | .hbm, ⟨4, _⟩ => ⟨S128, .f32⟩
  | .hbm, ⟨5, _⟩ => ⟨S128x128x3, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128x3, .f32⟩
  | .hbm, ⟨10, _⟩ => ⟨S128, .f32⟩
  | .hbm, ⟨11, _⟩ => ⟨S128, .f32⟩
  | .hbm, ⟨12, _⟩ => ⟨S128, .f32⟩
  | .hbm, ⟨13, _⟩ => ⟨S4x128, .f32⟩
  | .hbm, ⟨14, _⟩ => ⟨S4, .f32⟩
  | .hbm, ⟨15, _⟩ => ⟨S16x1x1024, .i32⟩
  | .hbm, ⟨16, _⟩ => ⟨S128x128, .f32⟩
  | .hbm, ⟨17, _⟩ => ⟨S3x128x128, .f32⟩
  | .hbm, ⟨18, _⟩ => ⟨S3x128x128, .f32⟩
  | .hbm, ⟨19, _⟩ => ⟨S16x4x1024, .f32⟩
  | .local _ .vmem, ⟨0, _⟩ => ⟨S1x128x4096, .f32⟩
  | .local _ .vmem, ⟨1, _⟩ => ⟨S1x128x4096, .f32⟩
  | .local _ .vmem, ⟨2, _⟩ => ⟨S1x1x1024, .i32⟩
  | .local _ .vmem, ⟨3, _⟩ => ⟨S1x1x1024, .i32⟩
  | .local _ .vmem, ⟨4, _⟩ => ⟨S128x128, .f32⟩
  | .local _ .vmem, ⟨5, _⟩ => ⟨S128, .f32⟩
  | .local _ .vmem, ⟨6, _⟩ => ⟨S3x128x128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S3x128x128, .f32⟩
  | .local _ .vmem, ⟨11, _⟩ => ⟨S128, .f32⟩
  | .local _ .vmem, ⟨12, _⟩ => ⟨S128, .f32⟩
  | .local _ .vmem, ⟨13, _⟩ => ⟨S128, .f32⟩
  | .local _ .vmem, ⟨14, _⟩ => ⟨S4x128, .f32⟩
  | .local _ .vmem, ⟨15, _⟩ => ⟨S4, .f32⟩
  | .local _ .vmem, ⟨16, _⟩ => ⟨S1x4x1024, .f32⟩
  | .local _ .vmem, ⟨17, _⟩ => ⟨S1x4x1024, .f32⟩
  | _, _ => ⟨S16x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x4x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S16x128x4096 : Shape := ⟨3, ![16, 128, 4096]⟩
abbrev S16x1x1024 : Shape := ⟨3, ![16, 1, 1024]⟩
abbrev S16x1024 : Shape := ⟨2, ![16, 1024]⟩
abbrev S128x128x1 : Shape := ⟨3, ![128, 128, 1]⟩
abbrev S128 : Shape := ⟨1, ![128]⟩
abbrev S128x128x3 : Shape := ⟨3, ![128, 128, 3]⟩
abbrev S4x128 : Shape := ⟨2, ![4, 128]⟩
abbrev S4 : Shape := ⟨1, ![4]⟩
abbrev S_ : Shape := ⟨0, ![]⟩
abbrev S4096 : Shape := ⟨1, ![4096]⟩
abbrev S1x4096x1 : Shape := ⟨3, ![1, 4096, 1]⟩
abbrev S16x4096x1024 : Shape := ⟨3, ![16, 4096, 1024]⟩
abbrev S16x4096 : Shape := ⟨2, ![16, 4096]⟩
abbrev S16 : Shape := ⟨1, ![16]⟩
abbrev S16x1025x128 : Shape := ⟨3, ![16, 1025, 128]⟩
abbrev S16x1 : Shape := ⟨2, ![16, 1]⟩
abbrev S16x4096x128 : Shape := ⟨3, ![16, 4096, 128]⟩
abbrev S16x4096x1 : Shape := ⟨3, ![16, 4096, 1]⟩
abbrev S16x4096x2 : Shape := ⟨3, ![16, 4096, 2]⟩
abbrev S16x1024x128 : Shape := ⟨3, ![16, 1024, 128]⟩
abbrev S16x1024x1 : Shape := ⟨3, ![16, 1024, 1]⟩
abbrev S16x128x1024 : Shape := ⟨3, ![16, 128, 1024]⟩
abbrev S128x128 : Shape := ⟨2, ![128, 128]⟩
abbrev S1x128x1 : Shape := ⟨3, ![1, 128, 1]⟩
abbrev S16x128x1026 : Shape := ⟨3, ![16, 128, 1026]⟩
abbrev S4x16x1024 : Shape := ⟨3, ![4, 16, 1024]⟩
abbrev S16x4x1024 : Shape := ⟨3, ![16, 4, 1024]⟩
abbrev S1x4x1 : Shape := ⟨3, ![1, 4, 1]⟩

abbrev nBuf : Space → Nat
  | .hbm => 238
  | .vmem => 0
  | .smem => 0
  | _ => 0

abbrev hbmTy0_0 (i : Nat) : BufTy := match i % 128 with
  | 0 => ⟨S16x128x4096, .f32⟩
  | 1 => ⟨S16x1x1024, .f32⟩
  | 2 => ⟨S16x1024, .i32⟩
  | 3 => ⟨S128x128x1, .f32⟩
  | 4 => ⟨S128, .f32⟩
  | 5 => ⟨S128x128x3, .f32⟩
  | 6 => ⟨S128, .f32⟩
  | 7 => ⟨S128, .f32⟩
  | 8 => ⟨S128, .f32⟩
  | 9 => ⟨S128x128x3, .f32⟩
  | 10 => ⟨S128, .f32⟩
  | 11 => ⟨S128, .f32⟩
  | 12 => ⟨S128, .f32⟩
  | 13 => ⟨S4x128, .f32⟩
  | 14 => ⟨S4, .f32⟩
  | 15 => ⟨S_, .i32⟩
  | 16 => ⟨S_, .i32⟩
  | 17 => ⟨S16x1024, .i32⟩
  | 18 => ⟨S4096, .i32⟩
  | 19 => ⟨S16x1x1024, .i32⟩
  | 20 => ⟨S1x4096x1, .i32⟩
  | 21 => ⟨S16x4096x1024, .i32⟩
  | 22 => ⟨S16x4096x1024, .i32⟩
  | 23 => ⟨S16x4096x1024, .i1⟩
  | 24 => ⟨S16x4096x1024, .i32⟩
  | 25 => ⟨S_, .i32⟩
  | 26 => ⟨S16x4096, .i32⟩
  | 27 => ⟨S16, .i32⟩
  | 28 => ⟨S_, .f32⟩
  | 29 => ⟨S16x1025x128, .f32⟩
  | 30 => ⟨S16x1, .i32⟩
  | 31 => ⟨S16x4096x128, .f32⟩
  | 32 => ⟨S_, .i32⟩
  | 33 => ⟨S16x1, .i32⟩
  | 34 => ⟨S16x1, .i1⟩
  | 35 => ⟨S_, .i32⟩
  | 36 => ⟨S16x1, .i32⟩
  | 37 => ⟨S16x1, .i32⟩
  | 38 => ⟨S16x1, .i32⟩
  | 39 => ⟨S_, .i32⟩
  | 40 => ⟨S16x4096, .i32⟩
  | 41 => ⟨S16x4096, .i1⟩
  | 42 => ⟨S_, .i32⟩
  | 43 => ⟨S16x4096, .i32⟩
  | 44 => ⟨S16x4096, .i32⟩
  | 45 => ⟨S16x4096, .i32⟩
  | 46 => ⟨S16x4096, .i32⟩
  | 47 => ⟨S16x4096x1, .i32⟩
  | 48 => ⟨S16x4096x1, .i32⟩
  | 49 => ⟨S16x4096x2, .i32⟩
  | 50 => ⟨S16x1025x128, .f32⟩
  | 51 => ⟨S16x1024x128, .f32⟩
  | 52 => ⟨S_, .i32⟩
  | 53 => ⟨S16x1024, .i32⟩
  | 54 => ⟨S16x1024, .i32⟩
  | 55 => ⟨S16x1024, .f32⟩
  | 56 => ⟨S16x1024x1, .f32⟩
  | 57 => ⟨S16x1024x128, .f32⟩
  | 58 => ⟨S16x1024x128, .f32⟩
  | 59 => ⟨S_, .i32⟩
  | 60 => ⟨S16x1024, .i32⟩
  | 61 => ⟨S16x1024, .i1⟩
  | 62 => ⟨S16x1024x1, .i1⟩
  | 63 => ⟨S_, .f32⟩
  | 64 => ⟨S_, .f32⟩
  | 65 => ⟨S16x1024x128, .i1⟩
  | 66 => ⟨S16x1024x128, .f32⟩
  | 67 => ⟨S16x1024x128, .f32⟩
  | 68 => ⟨S16x128x1024, .f32⟩
  | 69 => ⟨S128x128, .f32⟩
  | 70 => ⟨S16x1024x128, .f32⟩
  | 71 => ⟨S16x128x1024, .f32⟩
  | 72 => ⟨S1x128x1, .f32⟩
  | 73 => ⟨S16x128x1024, .f32⟩
  | 74 => ⟨S16x128x1024, .f32⟩
  | 75 => ⟨S16x128x1024, .f32⟩
  | 76 => ⟨S16x128x1024, .f32⟩
  | 77 => ⟨S_, .i32⟩
  | 78 => ⟨S_, .f32⟩
  | 79 => ⟨S16x128x1026, .f32⟩
  | 80 => ⟨S128x128x1, .f32⟩
  | 81 => ⟨S128x128, .f32⟩
  | 82 => ⟨S16x128x1024, .f32⟩
  | 83 => ⟨S16x1024x128, .f32⟩
  | 84 => ⟨S16x128x1024, .f32⟩
  | 85 => ⟨S128x128x1, .f32⟩
  | 86 => ⟨S128x128, .f32⟩
  | 87 => ⟨S16x128x1024, .f32⟩
  | 88 => ⟨S16x1024x128, .f32⟩
  | 89 => ⟨S16x128x1024, .f32⟩
  | 90 => ⟨S16x128x1024, .f32⟩
  | 91 => ⟨S128x128x1, .f32⟩
  | 92 => ⟨S128x128, .f32⟩
  | 93 => ⟨S16x128x1024, .f32⟩
  | 94 => ⟨S16x1024x128, .f32⟩
  | 95 => ⟨S16x128x1024, .f32⟩
  | 96 => ⟨S16x128x1024, .f32⟩
  | 97 => ⟨S1x128x1, .f32⟩
  | 98 => ⟨S16x128x1024, .f32⟩
  | 99 => ⟨S16x128x1024, .f32⟩
  | 100 => ⟨S16x128x1024, .f32⟩
  | 101 => ⟨S16x128x1024, .f32⟩
  | 102 => ⟨S_, .f32⟩
  | 103 => ⟨S16x128x1024, .f32⟩
  | 104 => ⟨S16x128x1024, .f32⟩
  | 105 => ⟨S16x128x1024, .f32⟩
  | 106 => ⟨S16x128x1024, .f32⟩
  | 107 => ⟨S_, .f32⟩
  | 108 => ⟨S16x1024, .f32⟩
  | 109 => ⟨S16x1x1024, .f32⟩
  | 110 => ⟨S_, .f32⟩
  | 111 => ⟨S16x1x1024, .f32⟩
  | 112 => ⟨S16x1x1024, .f32⟩
  | 113 => ⟨S_, .i32⟩
  | 114 => ⟨S_, .f32⟩
  | 115 => ⟨S16x1024, .f32⟩
  | 116 => ⟨S16x1x1024, .f32⟩
  | 117 => ⟨S_, .f32⟩
  | 118 => ⟨S16x1x1024, .f32⟩
  | 119 => ⟨S16x1x1024, .f32⟩
  | 120 => ⟨S16x128x1024, .f32⟩
  | 121 => ⟨S16x128x1024, .f32⟩
  | 122 => ⟨S16x128x1024, .f32⟩
  | 123 => ⟨S_, .f32⟩
  | 124 => ⟨S_, .f32⟩
  | 125 => ⟨S_, .f32⟩
  | 126 => ⟨S_, .f32⟩
  | 127 => ⟨S16x1024, .f32⟩
  | _ => ⟨S16x128x4096, .f32⟩

abbrev hbmTy0_1 (i : Nat) : BufTy := match i % 128 with
  | 0 => ⟨S16x1x1024, .f32⟩
  | 1 => ⟨S16x1x1024, .f32⟩
  | 2 => ⟨S16x1x1024, .f32⟩
  | 3 => ⟨S_, .f32⟩
  | 4 => ⟨S_, .i1⟩
  | 5 => ⟨S_, .f32⟩
  | 6 => ⟨S_, .f32⟩
  | 7 => ⟨S16x1x1024, .f32⟩
  | 8 => ⟨S16x1x1024, .f32⟩
  | 9 => ⟨S16x128x1024, .f32⟩
  | 10 => ⟨S16x128x1024, .f32⟩
  | 11 => ⟨S_, .f32⟩
  | 12 => ⟨S16x1x1024, .f32⟩
  | 13 => ⟨S16x1x1024, .f32⟩
  | 14 => ⟨S16x1x1024, .f32⟩
  | 15 => ⟨S16x128x1024, .f32⟩
  | 16 => ⟨S16x128x1024, .f32⟩
  | 17 => ⟨S1x128x1, .f32⟩
  | 18 => ⟨S16x128x1024, .f32⟩
  | 19 => ⟨S16x128x1024, .f32⟩
  | 20 => ⟨S1x128x1, .f32⟩
  | 21 => ⟨S16x128x1024, .f32⟩
  | 22 => ⟨S16x128x1024, .f32⟩
  | 23 => ⟨S16x128x1024, .f32⟩
  | 24 => ⟨S16x128x1024, .f32⟩
  | 25 => ⟨S16x128x1024, .f32⟩
  | 26 => ⟨S16x128x1024, .f32⟩
  | 27 => ⟨S_, .i32⟩
  | 28 => ⟨S_, .f32⟩
  | 29 => ⟨S16x128x1026, .f32⟩
  | 30 => ⟨S128x128x1, .f32⟩
  | 31 => ⟨S128x128, .f32⟩
  | 32 => ⟨S16x128x1024, .f32⟩
  | 33 => ⟨S16x1024x128, .f32⟩
  | 34 => ⟨S16x128x1024, .f32⟩
  | 35 => ⟨S128x128x1, .f32⟩
  | 36 => ⟨S128x128, .f32⟩
  | 37 => ⟨S16x128x1024, .f32⟩
  | 38 => ⟨S16x1024x128, .f32⟩
  | 39 => ⟨S16x128x1024, .f32⟩
  | 40 => ⟨S16x128x1024, .f32⟩
  | 41 => ⟨S128x128x1, .f32⟩
  | 42 => ⟨S128x128, .f32⟩
  | 43 => ⟨S16x128x1024, .f32⟩
  | 44 => ⟨S16x1024x128, .f32⟩
  | 45 => ⟨S16x128x1024, .f32⟩
  | 46 => ⟨S16x128x1024, .f32⟩
  | 47 => ⟨S1x128x1, .f32⟩
  | 48 => ⟨S16x128x1024, .f32⟩
  | 49 => ⟨S16x128x1024, .f32⟩
  | 50 => ⟨S16x128x1024, .f32⟩
  | 51 => ⟨S16x128x1024, .f32⟩
  | 52 => ⟨S_, .f32⟩
  | 53 => ⟨S16x128x1024, .f32⟩
  | 54 => ⟨S16x128x1024, .f32⟩
  | 55 => ⟨S16x128x1024, .f32⟩
  | 56 => ⟨S16x128x1024, .f32⟩
  | 57 => ⟨S_, .f32⟩
  | 58 => ⟨S16x1024, .f32⟩
  | 59 => ⟨S16x1x1024, .f32⟩
  | 60 => ⟨S_, .f32⟩
  | 61 => ⟨S16x1x1024, .f32⟩
  | 62 => ⟨S16x1x1024, .f32⟩
  | 63 => ⟨S_, .i32⟩
  | 64 => ⟨S_, .f32⟩
  | 65 => ⟨S16x1024, .f32⟩
  | 66 => ⟨S16x1x1024, .f32⟩
  | 67 => ⟨S_, .f32⟩
  | 68 => ⟨S16x1x1024, .f32⟩
  | 69 => ⟨S16x1x1024, .f32⟩
  | 70 => ⟨S16x128x1024, .f32⟩
  | 71 => ⟨S16x128x1024, .f32⟩
  | 72 => ⟨S16x128x1024, .f32⟩
  | 73 => ⟨S_, .f32⟩
  | 74 => ⟨S_, .f32⟩
  | 75 => ⟨S_, .f32⟩
  | 76 => ⟨S_, .f32⟩
  | 77 => ⟨S16x1024, .f32⟩
  | 78 => ⟨S16x1x1024, .f32⟩
  | 79 => ⟨S16x1x1024, .f32⟩
  | 80 => ⟨S16x1x1024, .f32⟩
  | 81 => ⟨S_, .f32⟩
  | 82 => ⟨S_, .i1⟩
  | 83 => ⟨S_, .f32⟩
  | 84 => ⟨S_, .f32⟩
  | 85 => ⟨S16x1x1024, .f32⟩
  | 86 => ⟨S16x1x1024, .f32⟩
  | 87 => ⟨S16x128x1024, .f32⟩
  | 88 => ⟨S16x128x1024, .f32⟩
  | 89 => ⟨S_, .f32⟩
  | 90 => ⟨S16x1x1024, .f32⟩
  | 91 => ⟨S16x1x1024, .f32⟩
  | 92 => ⟨S16x1x1024, .f32⟩
  | 93 => ⟨S16x128x1024, .f32⟩
  | 94 => ⟨S16x128x1024, .f32⟩
  | 95 => ⟨S1x128x1, .f32⟩
  | 96 => ⟨S16x128x1024, .f32⟩
  | 97 => ⟨S16x128x1024, .f32⟩
  | 98 => ⟨S1x128x1, .f32⟩
  | 99 => ⟨S16x128x1024, .f32⟩
  | 100 => ⟨S16x128x1024, .f32⟩
  | 101 => ⟨S16x128x1024, .f32⟩
  | 102 => ⟨S16x128x1024, .f32⟩
  | 103 => ⟨S4x16x1024, .f32⟩
  | 104 => ⟨S16x4x1024, .f32⟩
  | 105 => ⟨S1x4x1, .f32⟩
  | 106 => ⟨S16x4x1024, .f32⟩
  | 107 => ⟨S16x4x1024, .f32⟩
  | 108 => ⟨S16x4x1024, .f32⟩
  | 109 => ⟨S16x4x1024, .f32⟩
  | _ => ⟨S16x128x4096, .f32⟩

abbrev hbmTy (i : Nat) : BufTy := match i / 128 with
  | 0 => hbmTy0_0 i
  | 1 => hbmTy0_1 i
  | _ => ⟨S16x128x4096, .f32⟩

abbrev bufTy : (tb : Table) → Fin (tcTables nBuf tb) → BufTy
  | .hbm, ⟨i, _⟩ => hbmTy i
  | _, _ => ⟨S16x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_call0_call0_c : Ref sig .tc := ⟨.hbm, 15, rfl⟩
abbrev main_call0_call0_v0 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_c : Ref sig .tc := ⟨.hbm, 25, rfl⟩
abbrev main_v8 : Ref sig .tc := ⟨.hbm, 26, rfl⟩
abbrev main_v9 : Ref sig .tc := ⟨.hbm, 27, rfl⟩
abbrev main_cst : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c_0 : Ref sig .tc := ⟨.hbm, 32, rfl⟩
abbrev main_v13 : Ref sig .tc := ⟨.hbm, 33, rfl⟩
abbrev main_v14 : Ref sig .tc := ⟨.hbm, 34, rfl⟩
abbrev main_c_1 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_2 : Ref sig .tc := ⟨.hbm, 39, rfl⟩
abbrev main_v18 : Ref sig .tc := ⟨.hbm, 40, rfl⟩
abbrev main_v19 : Ref sig .tc := ⟨.hbm, 41, rfl⟩
abbrev main_c_3 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_4 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_c_5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_7 : Ref sig .tc := ⟨.hbm, 77, rfl⟩
abbrev main_call2_v0 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_call3_cst : Ref sig .tc := ⟨.hbm, 102, rfl⟩
abbrev main_call3_v0 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_8 : Ref sig .tc := ⟨.hbm, 107, rfl⟩
abbrev main_v74 : Ref sig .tc := ⟨.hbm, 108, rfl⟩
abbrev main_v75 : Ref sig .tc := ⟨.hbm, 109, rfl⟩
abbrev main_cst_9 : Ref sig .tc := ⟨.hbm, 110, rfl⟩
abbrev main_v76 : Ref sig .tc := ⟨.hbm, 111, rfl⟩
abbrev main_v77 : Ref sig .tc := ⟨.hbm, 112, rfl⟩
abbrev main_c_10 : Ref sig .tc := ⟨.hbm, 113, rfl⟩
abbrev main_call4_cst : Ref sig .tc := ⟨.hbm, 114, rfl⟩
abbrev main_call4_v0 : Ref sig .tc := ⟨.hbm, 115, rfl⟩
abbrev main_call4_v1 : Ref sig .tc := ⟨.hbm, 116, rfl⟩
abbrev main_call4_cst_0 : Ref sig .tc := ⟨.hbm, 117, rfl⟩
abbrev main_call4_v2 : Ref sig .tc := ⟨.hbm, 118, rfl⟩
abbrev main_call4_v3 : Ref sig .tc := ⟨.hbm, 119, rfl⟩
abbrev main_call4_v4 : Ref sig .tc := ⟨.hbm, 120, rfl⟩
abbrev main_call4_v5 : Ref sig .tc := ⟨.hbm, 121, rfl⟩
abbrev main_call4_v6 : Ref sig .tc := ⟨.hbm, 122, rfl⟩
abbrev main_call4_v7 : Ref sig .tc := ⟨.hbm, 123, rfl⟩
abbrev main_call4_cst_1 : Ref sig .tc := ⟨.hbm, 124, rfl⟩
abbrev main_call4_v8 : Ref sig .tc := ⟨.hbm, 125, rfl⟩
abbrev main_call4_cst_2 : Ref sig .tc := ⟨.hbm, 126, rfl⟩
abbrev main_call4_v9 : Ref sig .tc := ⟨.hbm, 127, rfl⟩
abbrev main_call4_v10 : Ref sig .tc := ⟨.hbm, 128, rfl⟩
abbrev main_call4_v11 : Ref sig .tc := ⟨.hbm, 129, rfl⟩
abbrev main_call4_v12 : Ref sig .tc := ⟨.hbm, 130, rfl⟩
abbrev main_call4_cst_3 : Ref sig .tc := ⟨.hbm, 131, rfl⟩
abbrev main_call4_v13 : Ref sig .tc := ⟨.hbm, 132, rfl⟩
abbrev main_call4_cst_4 : Ref sig .tc := ⟨.hbm, 133, rfl⟩
abbrev main_call4_call0_v0 : Ref sig .tc := ⟨.hbm, 134, rfl⟩
abbrev main_call4_call0_v1 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_cst_11 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩
abbrev main_v95 : Ref sig .tc := ⟨.hbm, 154, rfl⟩
abbrev main_c_12 : Ref sig .tc := ⟨.hbm, 155, rfl⟩
abbrev main_call5_v0 : Ref sig .tc := ⟨.hbm, 156, rfl⟩
abbrev main_v96 : Ref sig .tc := ⟨.hbm, 157, rfl⟩
abbrev main_v97 : Ref sig .tc := ⟨.hbm, 158, rfl⟩
abbrev main_v98 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_call6_cst : Ref sig .tc := ⟨.hbm, 180, rfl⟩
abbrev main_call6_v0 : Ref sig .tc := ⟨.hbm, 181, rfl⟩
abbrev main_v119 : Ref sig .tc := ⟨.hbm, 182, rfl⟩
abbrev main_v120 : Ref sig .tc := ⟨.hbm, 183, rfl⟩
abbrev main_v121 : Ref sig .tc := ⟨.hbm, 184, rfl⟩
abbrev main_cst_13 : Ref sig .tc := ⟨.hbm, 185, rfl⟩
abbrev main_v122 : Ref sig .tc := ⟨.hbm, 186, rfl⟩
abbrev main_v123 : Ref sig .tc := ⟨.hbm, 187, rfl⟩
abbrev main_cst_14 : Ref sig .tc := ⟨.hbm, 188, rfl⟩
abbrev main_v124 : Ref sig .tc := ⟨.hbm, 189, rfl⟩
abbrev main_v125 : Ref sig .tc := ⟨.hbm, 190, rfl⟩
abbrev main_c_15 : Ref sig .tc := ⟨.hbm, 191, rfl⟩
abbrev main_call7_cst : Ref sig .tc := ⟨.hbm, 192, rfl⟩
abbrev main_call7_v0 : Ref sig .tc := ⟨.hbm, 193, rfl⟩
abbrev main_call7_v1 : Ref sig .tc := ⟨.hbm, 194, rfl⟩
abbrev main_call7_cst_0 : Ref sig .tc := ⟨.hbm, 195, rfl⟩
abbrev main_call7_v2 : Ref sig .tc := ⟨.hbm, 196, rfl⟩
abbrev main_call7_v3 : Ref sig .tc := ⟨.hbm, 197, rfl⟩
abbrev main_call7_v4 : Ref sig .tc := ⟨.hbm, 198, rfl⟩
abbrev main_call7_v5 : Ref sig .tc := ⟨.hbm, 199, rfl⟩
abbrev main_call7_v6 : Ref sig .tc := ⟨.hbm, 200, rfl⟩
abbrev main_call7_v7 : Ref sig .tc := ⟨.hbm, 201, rfl⟩
abbrev main_call7_cst_1 : Ref sig .tc := ⟨.hbm, 202, rfl⟩
abbrev main_call7_v8 : Ref sig .tc := ⟨.hbm, 203, rfl⟩
abbrev main_call7_cst_2 : Ref sig .tc := ⟨.hbm, 204, rfl⟩
abbrev main_call7_v9 : Ref sig .tc := ⟨.hbm, 205, rfl⟩
abbrev main_call7_v10 : Ref sig .tc := ⟨.hbm, 206, rfl⟩
abbrev main_call7_v11 : Ref sig .tc := ⟨.hbm, 207, rfl⟩
abbrev main_call7_v12 : Ref sig .tc := ⟨.hbm, 208, rfl⟩
abbrev main_call7_cst_3 : Ref sig .tc := ⟨.hbm, 209, rfl⟩
abbrev main_call7_v13 : Ref sig .tc := ⟨.hbm, 210, rfl⟩
abbrev main_call7_cst_4 : Ref sig .tc := ⟨.hbm, 211, rfl⟩
abbrev main_call7_call0_v0 : Ref sig .tc := ⟨.hbm, 212, rfl⟩
abbrev main_call7_call0_v1 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_cst_16 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_v134 : Ref sig .tc := ⟨.hbm, 223, rfl⟩
abbrev main_v135 : Ref sig .tc := ⟨.hbm, 224, rfl⟩
abbrev main_v136 : Ref sig .tc := ⟨.hbm, 225, rfl⟩
abbrev main_v137 : Ref sig .tc := ⟨.hbm, 226, rfl⟩
abbrev main_v138 : Ref sig .tc := ⟨.hbm, 227, rfl⟩
abbrev main_v139 : Ref sig .tc := ⟨.hbm, 228, rfl⟩
abbrev main_v140 : Ref sig .tc := ⟨.hbm, 229, rfl⟩
abbrev main_v141 : Ref sig .tc := ⟨.hbm, 230, rfl⟩
abbrev main_v142 : Ref sig .tc := ⟨.hbm, 231, rfl⟩
abbrev main_v143 : Ref sig .tc := ⟨.hbm, 232, rfl⟩
abbrev main_v144 : Ref sig .tc := ⟨.hbm, 233, rfl⟩
abbrev main_v145 : Ref sig .tc := ⟨.hbm, 234, rfl⟩
abbrev main_v146 : Ref sig .tc := ⟨.hbm, 235, rfl⟩
abbrev main_v147 : Ref sig .tc := ⟨.hbm, 236, rfl⟩
abbrev main_v148 : Ref sig .tc := ⟨.hbm, 237, rfl⟩

abbrev nD : Nat := 1
abbrev τ : Topo := Topo.v7x

variable {F : FTy → Type} [FloatOps F]
-- ==== Proof.Spec.lean ====
/-
  The mathematics of the duration-pooled predictor, on plain functions of channel and token: where each token's frames lie, the mean of a channel over
  them, the pointwise and three-tap convolutions, the layer normalisation over channels, and the linear head. Nothing here names a program. The two facts
  proved are those on which the kernel and the reference differ: counting the tokens that end at or before a frame finds the token the frame belongs to,
  and multiplying by a reciprocal square root is dividing by the square root.
-/
module

public import Idealize.ShloMosaic.PureOps.Ideal

@[expose] public section
noncomputable section
namespace Cert.Proof.Spec
open Idealize.ShloMosaic

/-- A token table: one extended real for each channel and token. -/
abbrev Tab (C : Nat) := Fin C → Fin 1024 → EReal

/-- How many frames lie before token `j`. -/
def before (w : Fin 1024 → Nat) (j : Fin 1024) : Nat := ∑ i, if i < j then w i else 0

/-- The frame at which token `j` ends: the durations up to and including its own, summed. -/
def ends (w : Fin 1024 → Nat) (j : Fin 1024) : Nat := ∑ i, if i ≤ j then w i else 0

/-- Frame `t` lies in token `j`. -/
def Holds (w : Fin 1024 → Nat) (j : Fin 1024) (t : Nat) : Prop := ends w j ≤ t + w j ∧ t < ends w j

instance (w : Fin 1024 → Nat) (j : Fin 1024) (t : Nat) : Decidable (Holds w j t) := inferInstanceAs (Decidable (_ ∧ _))

/-- The number of tokens that end at or before frame `t`. -/
def seg (w : Fin 1024 → Nat) (t : Nat) : Nat := (Finset.univ.filter fun i : Fin 1024 => ends w i ≤ t).card

/-- A token ends its own duration after it begins. -/
theorem ends_eq (w : Fin 1024 → Nat) (j : Fin 1024) : ends w j = before w j + w j := by
  unfold ends before
  have h : ∀ i : Fin 1024, (if i ≤ j then w i else 0) = (if i < j then w i else 0) + (if i = j then w i else 0) := by
    intro i
    rcases lt_trichotomy i j with h | h | h
    · simp [h, h.le, h.ne]
    · simp [h]
    · simp [h.not_ge, h.not_gt, h.ne']
  rw [Finset.sum_congr rfl fun i _ => h i, Finset.sum_add_distrib]
  simp

/-- Later tokens end later. -/
theorem ends_mono (w : Fin 1024 → Nat) {i j : Fin 1024} (h : i ≤ j) : ends w i ≤ ends w j := by
  refine Finset.sum_le_sum fun k _ => ?_
  by_cases hk : k ≤ i
  · rw [if_pos hk, if_pos (hk.trans h)]
  · rw [if_neg hk]; exact Nat.zero_le _

/-- A token that comes earlier ends before a later one begins. -/
theorem ends_le_before (w : Fin 1024 → Nat) {i j : Fin 1024} (h : i < j) : ends w i ≤ before w j := by
  refine Finset.sum_le_sum fun k _ => ?_
  by_cases hk : k ≤ i
  · rw [if_pos hk, if_pos (hk.trans_lt h)]
  · rw [if_neg hk]; exact Nat.zero_le _

/-- If every earlier token ends at or before frame `t`, then token `j` has begun by then. -/
theorem before_le (w : Fin 1024 → Nat) (j : Fin 1024) (t : Nat) (h : ∀ i, i < j → ends w i ≤ t) : before w j ≤ t := by
  by_cases h0 : j.val = 0
  · have : before w j = 0 := Finset.sum_eq_zero fun i _ => if_neg fun hi => by
      have : i.val < j.val := hi
      omega
    omega
  · have hp : j.val - 1 < 1024 := by omega
    refine le_trans (le_of_eq ?_) (h ⟨j.val - 1, hp⟩ (Fin.lt_def.2 (by show j.val - 1 < j.val; omega)))
    refine Finset.sum_congr rfl fun i _ => if_congr ?_ rfl rfl
    rw [Fin.lt_def, Fin.le_def]
    show i.val < j.val ↔ i.val ≤ j.val - 1
    omega

/-- The tokens below a bound, counted. -/
theorem card_below (j : Fin 1024) : (Finset.univ.filter fun i : Fin 1024 => i < j).card = j.val := by
  have : (Finset.univ.filter fun i : Fin 1024 => i < j) = Finset.Iio j := by ext; simp
  rw [this, Fin.card_Iio]

/-- THE TOKEN OF A FRAME: exactly `j` tokens end at or before frame `t` when, and only when, frame `t` lies in token `j`. -/
theorem seg_eq_iff (w : Fin 1024 → Nat) (j : Fin 1024) (t : Nat) : seg w t = j.val ↔ Holds w j t := by
  unfold seg Holds
  constructor
  · intro h
    have hj : t < ends w j := by
      by_contra hn
      have hsub : insert j (Finset.univ.filter fun i : Fin 1024 => i < j) ⊆ Finset.univ.filter fun i : Fin 1024 => ends w i ≤ t := by
        intro i hi
        rw [Finset.mem_insert, Finset.mem_filter] at hi
        rw [Finset.mem_filter]
        have hij : i ≤ j := by
          rcases hi with e | e
          · exact e.le
          · exact e.2.le
        exact ⟨Finset.mem_univ _, (ends_mono w hij).trans (by omega)⟩
      have hc := Finset.card_le_card hsub
      rw [Finset.card_insert_of_notMem (by simp), card_below, h] at hc
      omega
    refine ⟨?_, hj⟩
    have hb : before w j ≤ t := before_le w j t fun i hi => by
      by_contra hn
      have hsub : (Finset.univ.filter fun k : Fin 1024 => ends w k ≤ t) ⊆ Finset.univ.filter fun k : Fin 1024 => k < i := by
        intro k hk
        rw [Finset.mem_filter] at hk ⊢
        refine ⟨Finset.mem_univ _, ?_⟩
        by_contra hki
        have := ends_mono w (not_lt.1 hki)
        omega
      have hc := Finset.card_le_card hsub
      rw [card_below, h] at hc
      have : i.val < j.val := hi
      omega
    have := ends_eq w j
    omega
  · rintro ⟨h1, h2⟩
    have e := ends_eq w j
    refine Eq.trans (congrArg Finset.card (Finset.ext fun i => ?_)) (card_below j)
    simp only [Finset.mem_filter, Finset.mem_univ, true_and]
    constructor
    · intro hi
      by_contra hn
      have := ends_mono w (not_lt.1 hn)
      omega
    · intro hi
      have := ends_le_before w hi
      omega

/-- No more tokens end by a frame than there are. -/
theorem seg_le (w : Fin 1024 → Nat) (t : Nat) : seg w t ≤ 1024 := by
  refine (Finset.card_le_univ _).trans (le_of_eq ?_)
  exact Fintype.card_fin 1024

/-- A token of no duration holds no frame. -/
theorem not_holds_of_zero (w : Fin 1024 → Nat) (j : Fin 1024) (t : Nat) (h : w j = 0) : ¬ Holds w j t := by
  rintro ⟨h1, h2⟩
  omega

/-- Durations below a bound end below the sum of the bounds. -/
theorem ends_lt (w : Fin 1024 → Nat) (h : ∀ i, w i ≤ 1048576) (j : Fin 1024) : ends w j < 2 ^ 31 := by
  have : ends w j ≤ ∑ _i : Fin 1024, 1048576 := by
    refine Finset.sum_le_sum fun i _ => ?_
    split
    · exact h i
    · exact Nat.zero_le _
  rw [Finset.sum_const, Finset.card_univ, Fintype.card_fin, smul_eq_mul] at this
  omega

/-- The number of channels, as the single-precision word that both programs divide by. -/
def chans : EReal := Ideal.ofBits .f32 0x43000000#32

/-- The number added to a variance, as the single-precision word both programs add. -/
def eps : EReal := Ideal.ofBits .f32 0x3727C5AC#32

/-- The mean of channel `c` over the frames of token `j`. -/
def pool (x : Fin 128 → Fin 4096 → EReal) (w : Fin 1024 → Nat) : Tab 128 := fun c j =>
  (∑ t : Fin 4096, if Holds w j t.val then x c t else 0) * (((1 : ℝ) / ((max (w j) 1 : Nat) : ℝ) : ℝ) : EReal)

/-- A linear map over channels, with a bias: a convolution of one tap. -/
def lin {C : Nat} (a : Fin C → Fin 128 → EReal) (b : Fin C → EReal) (h : Tab 128) : Tab C := fun o l => (∑ c, a o c * h c l) + b o

/-- A convolution of three taps, zero beyond both ends, with a bias, then the positive part. -/
def conv (a : Fin 3 → Fin 128 → Fin 128 → EReal) (b : Fin 128 → EReal) (h : Tab 128) : Tab 128 := fun o l =>
  max ((∑ c, if 1 ≤ l.val then a 0 o c * h c ⟨(l.val + 1023) % 1024, Nat.mod_lt _ (by decide)⟩ else 0) + (∑ c, a 1 o c * h c l)
    + (∑ c, if l.val < 1023 then a 2 o c * h c ⟨(l.val + 1) % 1024, Nat.mod_lt _ (by decide)⟩ else 0) + b o) 0

/-- The mean over channels. -/
def mean (h : Tab 128) (l : Fin 1024) : EReal := Ideal.div (∑ o, h o l) chans

/-- The variance over channels. -/
def var (h : Tab 128) (l : Fin 1024) : EReal := Ideal.div (∑ o, (h o l - mean h l) * (h o l - mean h l)) chans

/-- The layer normalisation over channels, by a reciprocal square root. -/
def norm (g b : Fin 128 → EReal) (h : Tab 128) : Tab 128 := fun o l =>
  (h o l - mean h l) * Ideal.rsqrt (var h l + eps) * g o + b o

/-- The whole predictor. -/
def model (x : Fin 128 → Fin 4096 → EReal) (w : Fin 1024 → Nat) (pw : Fin 128 → Fin 128 → EReal) (pb : Fin 128 → EReal)
    (a0 : Fin 3 → Fin 128 → Fin 128 → EReal) (c0 g0 b0 : Fin 128 → EReal) (a1 : Fin 3 → Fin 128 → Fin 128 → EReal) (c1 g1 b1 : Fin 128 → EReal)
    (lw : Fin 4 → Fin 128 → EReal) (lb : Fin 4 → EReal) : Tab 4 :=
  lin lw lb (norm g1 b1 (conv a1 c1 (norm g0 b0 (conv a0 c0 (lin pw pb (pool x w))))))

/-- The divisor is the real number 128. -/
theorem chans_eq : chans = ((128 : ℝ) : EReal) := by
  unfold chans
  simp [Ideal.ofBits, Ideal.ieee, -EReal.coe_mul]
  norm_num

/-- The number added to a variance is positive. -/
theorem eps_pos : 0 < eps := by
  unfold eps
  simp [Ideal.ofBits, Ideal.ieee, -EReal.coe_mul]

/-- A square is not negative. -/
theorem mul_self_nonneg' (x : EReal) : 0 ≤ x * x := by
  induction x with
  | bot => simp
  | top => simp
  | coe r => exact_mod_cast mul_self_nonneg r

/-- A variance is not negative. -/
theorem var_nonneg (h : Tab 128) (l : Fin 1024) : 0 ≤ var h l := by
  unfold var
  rw [chans_eq, Ideal.div_coe (by norm_num)]
  exact mul_nonneg (Finset.sum_nonneg fun o _ => mul_self_nonneg' _) (by exact_mod_cast (by norm_num : (0 : ℝ) ≤ 1 / 128))

/-- Dividing by the square root of a positive number is multiplying by its reciprocal square root. -/
theorem div_sqrt (a v : EReal) (h : 0 < v) : Ideal.div a (Ideal.sqrt v) = a * Ideal.rsqrt v := by
  induction v with
  | bot => simp at h
  | top => simp [Ideal.div]
  | coe r =>
    have hr : 0 < r := by exact_mod_cast h
    have hs : Real.sqrt r ≠ 0 := (Real.sqrt_pos.2 hr).ne'
    rw [Ideal.sqrt_coe, Ideal.rsqrt_coe, if_neg hr.not_gt, if_neg hr.not_gt, if_neg hr.ne', Ideal.div_coe hs, one_div]

/-- The layer normalisation as a division by the standard deviation. -/
theorem norm_eq (g b : Fin 128 → EReal) (h : Tab 128) (o : Fin 128) (l : Fin 1024) :
    norm g b h o l = Ideal.div (h o l - mean h l) (Ideal.sqrt (var h l + eps)) * g o + b o := by
  rw [div_sqrt _ _ (eps_pos.trans_le (le_add_of_nonneg_left (var_nonneg h l)))]
  rfl

end Cert.Proof.Spec
end
-- ==== Proof.KernelPool.lean ====
/-
  One grid point of the kernel, its first half: from the frames and the durations of a batch element to the mean of each channel over each token's frames,
  through the pointwise convolution. The kernel sums the frames in four blocks of 1024, each weighted by a 0/1 mask of two float comparisons.
-/
module

public import proofs.«01_k».proof.Proof.Gen.KernelIdeal.Value
public import proofs.«01_k».proof.Proof.Spec
public import Idealize.ShloMosaic.Lib.Pointwise
public import Idealize.ShloMosaic.Lib.WordCmp

@[expose] public section
set_option maxRecDepth 16384
noncomputable section
namespace Cert.Proof.Kernel
open Idealize.ShloMosaic Cert.KernelIdeal Cert.KernelIdeal.Gen Cert.Proof.Spec

/-- The durations in a block, as numbers. -/
def dur (v2 : Vec Ideal S1x1x1024 .i32) (i : Fin 1024) : Nat := (v2 (ix3 0 0 i)).toNat

/-- A word below `2³¹`, made a float, is its number. -/
theorem sitofp_toNat (b : BitVec 32) (h : b.toNat < 2 ^ 31) : FloatOps.sitofp (F := Ideal) .f32 b = (((b.toNat : Nat) : ℝ) : EReal) := by
  show ((b.toInt : ℝ) : EReal) = _
  rw [WordCmp.toInt_eq_toNat_of_lt_half h, Int.cast_natCast]

/-- One bit, widened and made a float, is one or zero. -/
theorem sitofp_bit (P : Prop) [Decidable P] :
    FloatOps.sitofp (F := Ideal) .f32 (BitVec.setWidth 32 (BitVec.ofBool (decide P))) = if P then 1 else 0 := by
  rw [sitofp_toNat _ (by by_cases h : P <;> simp [h])]
  by_cases h : P <;> simp [h]

/-- The number of a frame, made a float. -/
theorem sitofp_frame (x k : Nat) (h : k + x < 4096) :
    FloatOps.sitofp (F := Ideal) .f32 (IntOp.addi (BitVec.ofNat 32 x) (BitVec.ofNat 32 k)) = (((k + x : Nat) : ℝ) : EReal) := by
  have e : IntOp.addi (BitVec.ofNat 32 x) (BitVec.ofNat 32 k) = BitVec.ofNat 32 (k + x) := by
    rw [Nat.add_comm]; exact (BitVec.ofNat_add x k).symm
  have hn : (BitVec.ofNat 32 (k + x)).toNat = k + x := WordCmp.toNat_ofNat_of_lt (by omega)
  rw [e, sitofp_toNat _ (by omega), hn]

/-- One frame's share in a token: the channel's value times the mask is the value where the frame lies in the token, and zero elsewhere. -/
theorem frame_term (a : EReal) (e d x k : Nat) (h : k + x < 4096) :
    a * FloatOps.sitofp (F := Ideal) .f32 (BitVec.setWidth 32 (IntOp.andi
      (BitVec.ofBool (decide (((e : ℝ) : EReal) - ((d : ℝ) : EReal) ≤ FloatOps.sitofp (F := Ideal) .f32 (IntOp.addi (BitVec.ofNat 32 x) (BitVec.ofNat 32 k)))))
      (BitVec.ofBool (decide (FloatOps.sitofp (F := Ideal) .f32 (IntOp.addi (BitVec.ofNat 32 x) (BitVec.ofNat 32 k)) < ((e : ℝ) : EReal))))))
      = if e ≤ (k + x) + d ∧ k + x < e then a else 0 := by
  rw [sitofp_frame x k h, WordCmp.andi_ofBool, ← Bool.decide_and, sitofp_bit]
  have h1 : ((e : ℝ) : EReal) - ((d : ℝ) : EReal) ≤ (((k + x : Nat) : ℝ) : EReal) ↔ e ≤ (k + x) + d := by
    rw [← EReal.coe_sub, EReal.coe_le_coe_iff, sub_le_iff_le_add]
    exact_mod_cast Iff.rfl
  have h2 : (((k + x : Nat) : ℝ) : EReal) < ((e : ℝ) : EReal) ↔ k + x < e := by
    rw [EReal.coe_lt_coe_iff]
    exact_mod_cast Iff.rfl
  rw [if_congr (and_congr h1 h2) rfl rfl]
  split
  · exact mul_one a
  · exact mul_zero a

/-- A sum over the frames is the sum of the sums over the four quarters. -/
theorem sum_quarters (f : Fin 4096 → EReal) :
    ∑ t, f t = (((∑ x : Fin 1024, f ⟨x.val, by omega⟩) + ∑ x : Fin 1024, f ⟨1024 + x.val, by omega⟩) + ∑ x : Fin 1024, f ⟨2048 + x.val, by omega⟩)
      + ∑ x : Fin 1024, f ⟨3072 + x.val, by omega⟩ := by
  rw [show (∑ t, f t) = _ from Fin.sum_univ_add (a := 3072) (b := 1024) f]
  refine congrArg₂ (· + ·) ?_ rfl
  rw [show (∑ i : Fin 3072, f (Fin.castAdd 1024 i)) = _ from Fin.sum_univ_add (a := 2048) (b := 1024) fun i => f (Fin.castAdd 1024 i)]
  refine congrArg₂ (· + ·) ?_ rfl
  exact Fin.sum_univ_add (a := 1024) (b := 1024) fun i : Fin 2048 => f (Fin.castAdd 1024 (Fin.castAdd 1024 i))

/-- A sum of numbers made extended reals is their sum made one. -/
theorem sum_cast {ι : Type} (s : Finset ι) (f : ι → Nat) : ∑ x ∈ s, (((f x : Nat) : ℝ) : EReal) = (((∑ x ∈ s, f x : Nat) : ℝ) : EReal) := by
  classical
  induction s using Finset.induction_on with
  | empty => simp
  | insert a s ha ih => rw [Finset.sum_insert ha, Finset.sum_insert ha, ih, Nat.cast_add, EReal.coe_add]

/-- The reciprocal of a token's length, at least one frame. -/
theorem div_max (d : Nat) : Ideal.div 1 (max ((d : ℝ) : EReal) 1) = (((1 : ℝ) / ((max d 1 : Nat) : ℝ) : ℝ) : EReal) := by
  have e : max ((d : ℝ) : EReal) 1 = (((max d 1 : Nat) : ℝ) : EReal) := by
    rcases Nat.le_total d 1 with h | h
    · rw [max_eq_right h, max_eq_right (by exact_mod_cast h)]; simp
    · rw [max_eq_left h, max_eq_left (by exact_mod_cast h)]
  have hn : ((max d 1 : Nat) : ℝ) ≠ 0 := by
    have : 1 ≤ max d 1 := le_max_right d 1
    exact_mod_cast (by omega : max d 1 ≠ 0)
  rw [e, Ideal.div_coe hn, one_mul]

variable (v2 : Vec Ideal S1x1x1024 .i32)

/-- The durations as floats. -/
theorem pay3_eq (hw : ∀ i, dur v2 i ≤ 1048576) (i : Fin 1024) : k0_pay3 (F := Ideal) v2 (ix1 i) = ((dur v2 i : ℝ) : EReal) := by
  pointwise [k0_pay3]
  exact sitofp_toNat _ (lt_of_le_of_lt (hw i) (by norm_num))

/-- The frame at which each token ends, as a float: the product of the durations with the triangle of ones. -/
theorem pay4_eq (hw : ∀ i, dur v2 i ≤ 1048576) (j : Fin 1024) : k0_pay4 (F := Ideal) v2 (ix2 0 j) = ((ends (dur v2) j : ℝ) : EReal) := by
  pointwise [k0_pay4, k0_pay3]
  have ht : ∀ x : Fin 1024, FloatOps.sitofp (F := Ideal) .f32 (v2 (ix3 0 0 x)) * FloatOps.sitofp (F := Ideal) .f32
      (BitVec.setWidth 32 (IntOp.cmpi .sle (BitVec.ofNat 32 x.val) (BitVec.ofNat 32 j.val))) = (((if x ≤ j then dur v2 x else 0 : Nat) : ℝ) : EReal) := by
    intro x
    rw [WordCmp.cmpi_sle_ofNat (by omega) (by omega), sitofp_bit, sitofp_toNat _ (lt_of_le_of_lt (hw x) (by norm_num))]
    by_cases h : x.val ≤ j.val
    · rw [if_pos h, if_pos (Fin.le_def.2 h), mul_one]; rfl
    · rw [if_neg h, if_neg (fun q => h (Fin.le_def.1 q)), mul_zero]; simp
  rw [Finset.sum_congr rfl fun x _ => ht x, sum_cast]
  rfl

/-- The frame at which each token begins, as a float. -/
theorem pay5_eq (hw : ∀ i, dur v2 i ≤ 1048576) (j : Fin 1024) :
    k0_pay5 (F := Ideal) v2 (ix2 0 j) = ((ends (dur v2) j : ℝ) : EReal) - ((dur v2 j : ℝ) : EReal) := by
  rw [← pay4_eq v2 hw, ← pay3_eq v2 hw]
  pointwise [k0_pay5]

/-- The first two blocks' part of a token's sum. -/
theorem pay6_eq (hw : ∀ i, dur v2 i ≤ 1048576) (v0 : Vec Ideal S1x128x4096 .f32) (c : Fin 128) (j : Fin 1024) :
    k0_pay6 (F := Ideal) v0 v2 (ix2 c j)
      = (∑ x : Fin 1024, if Holds (dur v2) j x.val then v0 (ix3 0 c ⟨x.val, by omega⟩) else 0)
        + ∑ x : Fin 1024, if Holds (dur v2) j (1024 + x.val) then v0 (ix3 0 c ⟨1024 + x.val, by omega⟩) else 0 := by
  pointwise [k0_pay6, k0_pay2]
  rw [pay5_eq v2 hw, pay4_eq v2 hw]
  refine congrArg₂ (· + ·) (Finset.sum_congr rfl fun x _ => ?_) (Finset.sum_congr rfl fun x _ => ?_)
  · refine (frame_term _ _ _ x.val 0 (by omega)).trans (if_congr ?_ rfl rfl)
    rw [Nat.zero_add]; rfl
  · exact frame_term _ _ _ x.val 1024 (by omega)

/-- The pooled table through the pointwise convolution. -/
theorem pay8_eq (hw : ∀ i, dur v2 i ≤ 1048576) (v0 : Vec Ideal S1x128x4096 .f32) (v78 : Vec Ideal S128x128 .f32) (v81 : Vec Ideal S128 .f32)
    (o : Fin 128) (j : Fin 1024) :
    k0_pay8 (F := Ideal) (k0_pay2 v0) (k0_pay3 v2) (k0_pay4 v2) (k0_pay5 v2) (k0_pay6 v0 v2) k0_pay7 v78 v81 (ix2 o j)
      = lin (fun o c => v78 (ix2 o c)) (fun o => v81 (ix1 o)) (pool (fun c t => v0 (ix3 0 c t)) (dur v2)) o j := by
  have h3 := pay3_eq v2 hw
  have h4 := pay4_eq v2 hw
  have h5 := pay5_eq v2 hw
  have h6 := pay6_eq v2 hw v0
  generalize k0_pay3 (F := Ideal) v2 = p3 at h3 ⊢
  generalize k0_pay4 (F := Ideal) v2 = p4 at h4 ⊢
  generalize k0_pay5 (F := Ideal) v2 = p5 at h5 ⊢
  generalize k0_pay6 (F := Ideal) v0 v2 = p6 at h6 ⊢
  pointwise [k0_pay8, k0_pay7, k0_pay2]
  rw [h3, h4, h5]
  refine congrArg (· + v81 (ix1 o)) (Finset.sum_congr rfl fun c _ => congrArg (v78 (ix2 o c) * ·) ?_)
  rw [h6, div_max]
  refine congrArg₂ (· * ·) ?_ rfl
  rw [sum_quarters fun t => if Holds (dur v2) j t.val then v0 (ix3 0 c t) else 0]
  refine congrArg₂ (· + ·) (congrArg₂ (· + ·) rfl (Finset.sum_congr rfl fun x _ => ?_)) (Finset.sum_congr rfl fun x _ => ?_)
  · exact frame_term _ _ _ x.val 2048 (by omega)
  · exact frame_term _ _ _ x.val 3072 (by omega)

end Cert.Proof.Kernel
end
-- ==== Proof.KernelBlock.lean ====
/-
  One grid point of the kernel, whole: its convolutions, layer normalisations and head, as the functions of Spec, and with the pooled table of KernelPool the
  predictor on one batch element.
-/
module

public import proofs.«01_k».proof.Proof.KernelPool

@[expose] public section
set_option maxRecDepth 16384
noncomputable section
namespace Cert.Proof.Kernel
open Idealize.ShloMosaic Cert.KernelIdeal Cert.KernelIdeal.Gen Cert.Proof.Spec

/-- The tap before: kept where there is a token before. -/
theorem select_prev (l : Fin 1024) (a : EReal) :
    Scalar.select (IntOp.cmpi .sge (BitVec.ofNat 32 l.val) 1#32) a 0 = if 1 ≤ l.val then a else 0 := by
  rw [WordCmp.cmpi_sge_ofNat (by omega) (by omega), WordCmp.select_decide]

/-- The tap after: kept where there is a token after. -/
theorem select_next (l : Fin 1024) (a : EReal) :
    Scalar.select (IntOp.cmpi .slt (BitVec.ofNat 32 l.val) 1023#32) a 0 = if l.val < 1023 then a else 0 := by
  rw [WordCmp.cmpi_slt_ofNat (by omega) (by omega), WordCmp.select_decide]

/-- The position one token before, round the end. -/
theorem rot_prev (l : Fin 1024) (h : (l.val + 1024 - 1) % 1024 < 1024) :
    (⟨(l.val + 1024 - 1) % 1024, h⟩ : Fin 1024) = ⟨(l.val + 1023) % 1024, Nat.mod_lt _ (by decide)⟩ := Fin.ext (by show _ % _ = _ % _; omega)

/-- The position one token after, round the end. -/
theorem rot_next (l : Fin 1024) (h : (l.val + 1024 - 1023) % 1024 < 1024) :
    (⟨(l.val + 1024 - 1023) % 1024, h⟩ : Fin 1024) = ⟨(l.val + 1) % 1024, Nat.mod_lt _ (by decide)⟩ := Fin.ext (by show _ % _ = _ % _; omega)

/-- The first convolution and its positive part. -/
theorem pay12_eq (v84 : FVec Ideal S128x1024 .f32) (x4 : Vec Ideal S3x128x128 .f32) (v87 : Vec Ideal S128 .f32) (h : Tab 128)
    (hv : ∀ c l, v84 (ix2 c l) = h c l) (o : Fin 128) (l : Fin 1024) :
    k0_pay12 (F := Ideal) v84 (k0_pay9 x4) v87 (k0_pay10 x4) (iota .tc S128x1024 32 [1] iota_S128x1024_d1_w32) k0_pay11 (ix2 o l)
      = conv (fun k o c => x4 (ix3 k o c)) (fun o => v87 (ix1 o)) h o l := by
  pointwise [k0_pay12, k0_pay9, k0_pay10, k0_pay11]
  simp only [select_prev, select_next, rot_prev, rot_next, hv]
  rfl

section
variable (v84 : FVec Ideal S128x1024 .f32) (v86 : FVec Ideal S3x128x128 .f32) (v87 : Vec Ideal S128 .f32) (v89 : FVec Ideal S128x128 .f32)
  (v90 v91 : IVec S128x1024 32) (h : Tab 128) (hv : ∀ o l, k0_pay12 (F := Ideal) v84 v86 v87 v89 v90 v91 (ix2 o l) = h o l)
include hv

/-- The mean over channels after the first convolution. -/
theorem pay13_eq (l : Fin 1024) : k0_pay13 (F := Ideal) v84 v86 v87 v89 v90 v91 (ix2 0 l) = mean h l := by
  pointwise [k0_pay13]
  simp only [hv]
  rfl

/-- The first table less its mean. -/
theorem pay14_eq (o : Fin 128) (l : Fin 1024) : k0_pay14 (F := Ideal) v84 v86 v87 v89 v90 v91 (ix2 o l) = h o l - mean h l := by
  pointwise [k0_pay14]
  rw [hv, pay13_eq v84 v86 v87 v89 v90 v91 h hv]

/-- The reciprocal of the standard deviation over channels after the first convolution. -/
theorem pay15_eq (l : Fin 1024) : k0_pay15 (F := Ideal) v84 v86 v87 v89 v90 v91 (ix2 0 l) = Ideal.rsqrt (var h l + eps) := by
  pointwise [k0_pay15]
  simp only [hv, pay13_eq v84 v86 v87 v89 v90 v91 h hv]
  rfl
end

section
variable (g b : Vec Ideal S128 .f32) (v132 : FVec Ideal S128x1024 .f32) (v135 : FVec Ideal S1x1024 .f32) (x8 : Vec Ideal S3x128x128 .f32)
  (x9 : Vec Ideal S128 .f32) (h : Tab 128) (h132 : ∀ o l, v132 (ix2 o l) = h o l - mean h l)
  (h135 : ∀ l, v135 (ix2 0 l) = Ideal.rsqrt (var h l + eps))
include h132 h135

/-- The first normalisation, the second convolution and its positive part. -/
theorem pay16_eq (o : Fin 128) (l : Fin 1024) :
    k0_pay16 (F := Ideal) g b v132 v135 x8 x9 (ix2 o l)
      = conv (fun k o c => x8 (ix3 k o c)) (fun o => x9 (ix1 o)) (norm (fun o => g (ix1 o)) (fun o => b (ix1 o)) h) o l := by
  pointwise [k0_pay16]
  simp only [select_prev, select_next, rot_prev, rot_next, h132, h135]
  rfl

/-- The sum over channels after the second convolution. -/
theorem pay17_eq (l : Fin 1024) :
    k0_pay17 (F := Ideal) g b v132 v135 x8 x9 (ix2 0 l)
      = ∑ o, conv (fun k o c => x8 (ix3 k o c)) (fun o => x9 (ix1 o)) (norm (fun o => g (ix1 o)) (fun o => b (ix1 o)) h) o l := by
  pointwise [k0_pay17]
  simp only [pay16_eq g b v132 v135 x8 x9 h h132 h135]
end

/-- The second normalisation and the head. -/
theorem pay1_eq (v174 : FVec Ideal S128x1024 .f32) (g b : Vec Ideal S128 .f32) (v178 : FVec Ideal S1x1024 .f32) (x12 : Vec Ideal S4x128 .f32)
    (x13 : Vec Ideal S4 .f32) (h : Tab 128) (h174 : ∀ o l, v174 (ix2 o l) = h o l) (h178 : ∀ l, v178 (ix2 0 l) = ∑ o, h o l)
    (o : Fin 4) (l : Fin 1024) :
    k0_pay1 (F := Ideal) v174 g b v178 x12 x13 (ix3 0 o l)
      = lin (fun o c => x12 (ix2 o c)) (fun o => x13 (ix1 o)) (norm (fun o => g (ix1 o)) (fun o => b (ix1 o)) h) o l := by
  pointwise [k0_pay1]
  simp only [h174, h178]
  rfl

/-- THE BLOCK one grid point writes: the predictor on its batch element, from the blocks it reads. -/
theorem block_eq (x0 : Vec Ideal S1x128x4096 .f32) (x1 : Vec Ideal S1x1x1024 .i32) (x2 : Vec Ideal S128x128 .f32) (x3 : Vec Ideal S128 .f32)
    (x4 : Vec Ideal S3x128x128 .f32) (x5 x6 x7 : Vec Ideal S128 .f32) (x8 : Vec Ideal S3x128x128 .f32) (x9 x10 x11 : Vec Ideal S128 .f32)
    (x12 : Vec Ideal S4x128 .f32) (x13 : Vec Ideal S4 .f32) (hw : ∀ i, dur x1 i ≤ 1048576) (o : Fin 4) (l : Fin 1024)
    (p19 : FVec Ideal S128x1024 .f32)
    (h19 : p19 = k0_pay8 (F := Ideal) (k0_pay2 x0) (k0_pay3 x1) (k0_pay4 x1) (k0_pay5 x1) (k0_pay6 x0 x1) k0_pay7 x2 x3)
    (p23 : FVec Ideal S128x1024 .f32) (p24 : FVec Ideal S1x1024 .f32)
    (h23 : p23 = k0_pay14 p19 (k0_pay9 x4) x5 (k0_pay10 x4) (iota .tc S128x1024 32 [1] iota_S128x1024_d1_w32) k0_pay11)
    (h24 : p24 = k0_pay15 p19 (k0_pay9 x4) x5 (k0_pay10 x4) (iota .tc S128x1024 32 [1] iota_S128x1024_d1_w32) k0_pay11) :
    k0_pay1 (F := Ideal) (k0_pay16 x6 x7 p23 p24 x8 x9) x10 x11 (k0_pay17 x6 x7 p23 p24 x8 x9) x12 x13 (ix3 0 o l)
      = model (fun c t => x0 (ix3 0 c t)) (dur x1) (fun o c => x2 (ix2 o c)) (fun o => x3 (ix1 o))
          (fun k o c => x4 (ix3 k o c)) (fun o => x5 (ix1 o)) (fun o => x6 (ix1 o)) (fun o => x7 (ix1 o))
          (fun k o c => x8 (ix3 k o c)) (fun o => x9 (ix1 o)) (fun o => x10 (ix1 o)) (fun o => x11 (ix1 o))
          (fun o c => x12 (ix2 o c)) (fun o => x13 (ix1 o)) o l := by
  subst h19 h23 h24
  have e1 := pay12_eq _ x4 x5 _ (pay8_eq x1 hw x0 x2 x3)
  have e14 := pay14_eq _ _ _ _ _ _ _ e1
  have e15 := pay15_eq _ _ _ _ _ _ _ e1
  exact pay1_eq _ _ _ _ _ _ _ (pay16_eq x6 x7 _ _ x8 x9 _ e14 e15) (pay17_eq x6 x7 _ _ x8 x9 _ e14 e15) o l

end Cert.Proof.Kernel
end
-- ==== Proof.Result.lean ====
/-
  The predictor over whole arrays: what both programs compute from their fifteen arguments (the token mask, all ones, drops out).
-/
module

public import proofs.«01_k».proof.Proof.Spec
public import Idealize.ShloMosaic.Lib.Pointwise

@[expose] public section
noncomputable section
namespace Cert.Proof.Spec
open Idealize.ShloMosaic

/-- The durations of batch element `b`, as numbers. -/
def durs (a2 : (⟨2, ![16, 1024]⟩ : Shape).Idx → BitVec 32) (b : Fin 16) (j : Fin 1024) : Nat := (a2 (ix2 b j)).toNat

/-- The result: entry `(b, o, l)` is the predictor on batch element `b`, at output `o` and token `l`. -/
def result (a0 : (⟨3, ![16, 128, 4096]⟩ : Shape).Idx → EReal) (a2 : (⟨2, ![16, 1024]⟩ : Shape).Idx → BitVec 32)
    (a3 : (⟨3, ![128, 128, 1]⟩ : Shape).Idx → EReal) (a4 : (⟨1, ![128]⟩ : Shape).Idx → EReal)
    (a5 : (⟨3, ![128, 128, 3]⟩ : Shape).Idx → EReal) (a6 a7 a8 : (⟨1, ![128]⟩ : Shape).Idx → EReal)
    (a9 : (⟨3, ![128, 128, 3]⟩ : Shape).Idx → EReal) (a10 a11 a12 : (⟨1, ![128]⟩ : Shape).Idx → EReal)
    (a13 : (⟨2, ![4, 128]⟩ : Shape).Idx → EReal) (a14 : (⟨1, ![4]⟩ : Shape).Idx → EReal) : (⟨3, ![16, 4, 1024]⟩ : Shape).Idx → EReal :=
  fun y => model (fun c t => a0 (ix3 (y 0) c t)) (durs a2 (y 0)) (fun o c => a3 (ix3 o c 0)) (fun o => a4 (ix1 o))
    (fun k o c => a5 (ix3 o c k)) (fun o => a6 (ix1 o)) (fun o => a7 (ix1 o)) (fun o => a8 (ix1 o))
    (fun k o c => a9 (ix3 o c k)) (fun o => a10 (ix1 o)) (fun o => a11 (ix1 o)) (fun o => a12 (ix1 o))
    (fun o c => a13 (ix2 o c)) (fun o => a14 (ix1 o)) (y 1) (y 2)

end Cert.Proof.Spec
end
-- ==== Proof.KernelArray.lean ====
/-
  The kernel's result array after the run: each grid point reads its batch element and the weights, and writes its batch element of the result.
-/
module

public import proofs.«01_k».proof.Proof.KernelBlock
public import proofs.«01_k».proof.Proof.Result
public import Idealize.ShloMosaic.Lib.Pipeline.ValueKit
public import Idealize.ShloMosaic.Lib.Claim

@[expose] public section
set_option maxRecDepth 16384
noncomputable section
open Idealize.ShloMosaic Idealize.ShloMosaic.TcCoe Idealize.SL.Sem
open Idealize.ShloMosaic.Pipeline (Dat)
namespace Cert.Proof.Kernel
open Cert.KernelIdeal Cert.KernelIdeal.Gen Cert.Proof.Spec

/-- Where each window's block sits at each grid point: the batch element's own for the frames, the durations and the result, the whole array for the weights. -/
theorem idx : ∀ t : Fin cfg0.N, win0_0.index t = ![t.val, 0, 0] ∧ win0_1.index t = ![t.val, 0, 0] ∧ win0_2.index t = ![0, 0]
    ∧ win0_3.index t = ![0] ∧ win0_4.index t = ![0, 0, 0] ∧ win0_5.index t = ![0] ∧ win0_6.index t = ![0] ∧ win0_7.index t = ![0]
    ∧ win0_8.index t = ![0, 0, 0] ∧ win0_9.index t = ![0] ∧ win0_10.index t = ![0] ∧ win0_11.index t = ![0] ∧ win0_12.index t = ![0, 0]
    ∧ win0_13.index t = ![0] ∧ win0_14.index t = ![t.val, 0, 0] :=
  (by decide +kernel : ∀ t : Fin grid0.N, _)

/-- A grid point is a batch element. -/
theorem point_lt : ∀ t : Fin cfg0.N, t.val < 16 := (by decide +kernel : ∀ t : Fin grid0.N, t.val < 16)

variable (m : (ℓ : Loc nD τ sig) → Buf (Elt Ideal) ℓ) (c : Dev nD) (t : Fin cfg0.N)

/-- The frames a point reads. -/
theorem read0 (ch : Fin 128) (s : Fin 4096) :
    iblk m c 0 t (ix3 0 ch s) = m ((c : Thread nD τ).loc main_arg0) (ix3 ⟨t.val, point_lt t⟩ ch s) := by blk_ext! [iblk, V, idx t]

/-- The durations a point reads. -/
theorem read1 (j : Fin 1024) :
    iblk m c 1 t (ix3 0 0 j) = m ((c : Thread nD τ).loc main_arg2) (ix2 ⟨t.val, point_lt t⟩ j) := by blk_ext! [iblk, V, idx t]

/-- The pointwise convolution's weights. -/
theorem read2 (o ch : Fin 128) : iblk m c 2 t (ix2 o ch) = m ((c : Thread nD τ).loc main_arg3) (ix3 o ch 0) := by blk_ext! [iblk, V, idx t]

/-- Its bias. -/
theorem read3 (o : Fin 128) : iblk m c 3 t (ix1 o) = m ((c : Thread nD τ).loc main_arg4) (ix1 o) := by blk_ext! [iblk, V, idx t]

/-- The first convolution's weights, the tap first. -/
theorem read4 (k : Fin 3) (o ch : Fin 128) : iblk m c 4 t (ix3 k o ch) = m ((c : Thread nD τ).loc main_arg5) (ix3 o ch k) := by blk_ext! [iblk, V, idx t]

/-- Its bias. -/
theorem read5 (o : Fin 128) : iblk m c 5 t (ix1 o) = m ((c : Thread nD τ).loc main_arg6) (ix1 o) := by blk_ext! [iblk, V, idx t]

/-- The first normalisation's scale. -/
theorem read6 (o : Fin 128) : iblk m c 6 t (ix1 o) = m ((c : Thread nD τ).loc main_arg7) (ix1 o) := by blk_ext! [iblk, V, idx t]

/-- The first normalisation's shift. -/
theorem read7 (o : Fin 128) : iblk m c 7 t (ix1 o) = m ((c : Thread nD τ).loc main_arg8) (ix1 o) := by blk_ext! [iblk, V, idx t]

/-- The second convolution's weights, the tap first. -/
theorem read8 (k : Fin 3) (o ch : Fin 128) : iblk m c 8 t (ix3 k o ch) = m ((c : Thread nD τ).loc main_arg9) (ix3 o ch k) := by blk_ext! [iblk, V, idx t]

/-- Its bias. -/
theorem read9 (o : Fin 128) : iblk m c 9 t (ix1 o) = m ((c : Thread nD τ).loc main_arg10) (ix1 o) := by blk_ext! [iblk, V, idx t]

/-- The second normalisation's scale. -/
theorem read10 (o : Fin 128) : iblk m c 10 t (ix1 o) = m ((c : Thread nD τ).loc main_arg11) (ix1 o) := by blk_ext! [iblk, V, idx t]

/-- The second normalisation's shift. -/
theorem read11 (o : Fin 128) : iblk m c 11 t (ix1 o) = m ((c : Thread nD τ).loc main_arg12) (ix1 o) := by blk_ext! [iblk, V, idx t]

/-- The head's weights. -/
theorem read12 (o : Fin 4) (ch : Fin 128) : iblk m c 12 t (ix2 o ch) = m ((c : Thread nD τ).loc main_arg13) (ix2 o ch) := by blk_ext! [iblk, V, idx t]

/-- The head's bias. -/
theorem read13 (o : Fin 4) : iblk m c 13 t (ix1 o) = m ((c : Thread nD τ).loc main_arg14) (ix1 o) := by blk_ext! [iblk, V, idx t]

/-- Where a point writes. -/
theorem place14 (o : Fin 4) (l : Fin 1024) : ((cfg0.win 14).blk t).view.emb (ix3 0 o l) = ix3 ⟨t.val, point_lt t⟩ o l := by blk_ext! [idx t]

section
variable (x0 : Vec Ideal S1x128x4096 .f32) (x1 : Vec Ideal S1x1x1024 .i32) (x2 : Vec Ideal S128x128 .f32) (x3 : Vec Ideal S128 .f32)
  (x4 : Vec Ideal S3x128x128 .f32) (x5 x6 x7 : Vec Ideal S128 .f32) (x8 : Vec Ideal S3x128x128 .f32) (x9 x10 x11 : Vec Ideal S128 .f32)
  (x12 : Vec Ideal S4x128 .f32) (x13 : Vec Ideal S4 .f32)

/-- The pooled table a point computes, over whole blocks. -/
theorem pay19_eq : k0_pay19 (F := Ideal) x0 x1 x2 x3 x4 x5 x6 x7 x8 x9 x10 x11 x12 x13
    = k0_pay8 (k0_pay2 x0) (k0_pay3 x1) (k0_pay4 x1) (k0_pay5 x1) (k0_pay6 x0 x1) k0_pay7 x2 x3 := by
  unfold k0_pay19
  simp (disch := decide) only [View.ld_unit_lit']

/-- The first table less its mean, over whole blocks. -/
theorem pay23_eq : k0_pay23 (F := Ideal) x0 x1 x2 x3 x4 x5 x6 x7 x8 x9 x10 x11 x12 x13
    = k0_pay14 (k0_pay19 x0 x1 x2 x3 x4 x5 x6 x7 x8 x9 x10 x11 x12 x13) (k0_pay9 x4) x5 (k0_pay10 x4) (iota .tc S128x1024 32 [1] iota_S128x1024_d1_w32) k0_pay11 := by
  unfold k0_pay23 k0_pay20 k0_pay21 k0_pay22 k0_pay18
  simp (disch := decide) only [View.ld_unit_lit']

/-- The reciprocal deviation, over whole blocks. -/
theorem pay24_eq : k0_pay24 (F := Ideal) x0 x1 x2 x3 x4 x5 x6 x7 x8 x9 x10 x11 x12 x13
    = k0_pay15 (k0_pay19 x0 x1 x2 x3 x4 x5 x6 x7 x8 x9 x10 x11 x12 x13) (k0_pay9 x4) x5 (k0_pay10 x4) (iota .tc S128x1024 32 [1] iota_S128x1024_d1_w32) k0_pay11 := by
  unfold k0_pay24 k0_pay20 k0_pay21 k0_pay22 k0_pay18
  simp (disch := decide) only [View.ld_unit_lit']

/-- What a point stores, read at a coordinate of its block, from the blocks. -/
theorem stored_eq (hw : ∀ i, dur x1 i ≤ 1048576) (o : Fin 4) (l : Fin 1024) :
    k0_pay1 (F := Ideal) (k0_pay16 x6 x7 (k0_pay23 x0 x1 x2 x3 x4 x5 x6 x7 x8 x9 x10 x11 x12 x13) (k0_pay24 x0 x1 x2 x3 x4 x5 x6 x7 x8 x9 x10 x11 x12 x13) x8 x9) x10 x11
        (k0_pay17 x6 x7 (k0_pay23 x0 x1 x2 x3 x4 x5 x6 x7 x8 x9 x10 x11 x12 x13) (k0_pay24 x0 x1 x2 x3 x4 x5 x6 x7 x8 x9 x10 x11 x12 x13) x8 x9) x12 x13 (ix3 0 o l)
      = model (fun c t => x0 (ix3 0 c t)) (dur x1) (fun o c => x2 (ix2 o c)) (fun o => x3 (ix1 o))
          (fun k o c => x4 (ix3 k o c)) (fun o => x5 (ix1 o)) (fun o => x6 (ix1 o)) (fun o => x7 (ix1 o))
          (fun k o c => x8 (ix3 k o c)) (fun o => x9 (ix1 o)) (fun o => x10 (ix1 o)) (fun o => x11 (ix1 o))
          (fun o c => x12 (ix2 o c)) (fun o => x13 (ix1 o)) o l :=
  block_eq x0 x1 x2 x3 x4 x5 x6 x7 x8 x9 x10 x11 x12 x13 hw o l _ (pay19_eq x0 x1 x2 x3 x4 x5 x6 x7 x8 x9 x10 x11 x12 x13) _ _ (pay23_eq x0 x1 x2 x3 x4 x5 x6 x7 x8 x9 x10 x11 x12 x13) (pay24_eq x0 x1 x2 x3 x4 x5 x6 x7 x8 x9 x10 x11 x12 x13)
end

/-- What point `t` stores, read at a coordinate of its block, from the arguments. -/
theorem point_at (hw : ∀ j, durs (m ((c : Thread nD τ).loc main_arg2)) ⟨t.val, point_lt t⟩ j ≤ 1048576) (o : Fin 4) (l : Fin 1024) :
    k0_pay1 (F := Ideal) (k0_pay16 (iblk m c 6 t) (iblk m c 7 t) (k0_pay23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (iblk m c 8 t) (iblk m c 9 t))
        (iblk m c 10 t) (iblk m c 11 t)
        (k0_pay17 (iblk m c 6 t) (iblk m c 7 t) (k0_pay23 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (k0_pay24 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) (iblk m c 8 t) (iblk m c 9 t))
        (iblk m c 12 t) (iblk m c 13 t) (ix3 0 o l)
      = result (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9))
          (m ((c : Thread nD τ).loc main_arg10)) (m ((c : Thread nD τ).loc main_arg11)) (m ((c : Thread nD τ).loc main_arg12))
          (m ((c : Thread nD τ).loc main_arg13)) (m ((c : Thread nD τ).loc main_arg14)) (((cfg0.win 14).blk t).view.emb (ix3 0 o l)) := by
  have hd : dur (iblk m c 1 t) = durs (m ((c : Thread nD τ).loc main_arg2)) ⟨t.val, point_lt t⟩ := funext fun j => congrArg BitVec.toNat (read1 m c t j)
  rw [place14 t o l]
  refine (stored_eq (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (fun i => (congrFun hd i).trans_le (hw i)) o l).trans ?_
  unfold result
  rw [hd]
  simp only [read0 m c t, read2 m c t, read3 m c t, read4 m c t, read5 m c t, read6 m c t, read7 m c t, read8 m c t, read9 m c t,
    read10 m c t, read11 m c t, read12 m c t, read13 m c t]
  rfl

/-- An entry of a block has an output and a token. -/
theorem coords (y : S1x4x1024.Idx) : ∃ (o : Fin 4) (l : Fin 1024), y = ix3 0 o l := by
  refine ⟨y 1, y 2, funext fun a => ?_⟩
  match a with
  | ⟨0, _⟩ => exact Fin.ext (by have := (y 0).isLt; change (y 0).val < 1 at this; show (y 0).val = 0; omega)
  | ⟨1, _⟩ => rfl
  | ⟨2, _⟩ => rfl

/-- THE RESULT ARRAY, from the arguments, when every duration is in its range. -/
theorem final (hw : ∀ b j, durs (m ((c : Thread nD τ).loc main_arg2)) b j ≤ 1048576) :
    (dats m 0 c).arrAt 14 cfg0.N
      = result (m ((c : Thread nD τ).loc main_arg0)) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9))
          (m ((c : Thread nD τ).loc main_arg10)) (m ((c : Thread nD τ).loc main_arg11)) (m ((c : Thread nD τ).loc main_arg12))
          (m ((c : Thread nD τ).loc main_arg13)) (m ((c : Thread nD τ).loc main_arg14)) := by
  refine (dats m 0 c).arrAt_eq_of_covers 14 _ (by decide +kernel) fun t hf y => ?_
  blk_simp
  rw [after0_14]
  frame_out
  obtain ⟨o, l, rfl⟩ := coords (y : S1x4x1024.Idx)
  exact point_at m c t (hw ⟨t.val, point_lt t⟩) o l

end Cert.Proof.Kernel
end
-- ==== Proof.RefSegment.lean ====
/-
  The reference's pooling. A prefix sum of the durations, as words; the count of the tokens that end by a frame; a sum of the frames into
  the row their count names; a division by the duration where it is not zero.
-/
module

public import proofs.«01_k».proof.Proof.KernelPool
public import proofs.«01_k».proof.Proof.Result
public import proofs.«01_k».proof.Proof.Gen.ReferenceIdeal.Read
public import Idealize.ShloMosaic.Lib.Routing.Ops
public import Idealize.ShloMosaic.Lib.Routing.OpsPair
public import Idealize.ShloMosaic.Lib.StableHlo.Predicate

@[expose] public section
set_option maxRecDepth 16384
noncomputable section
namespace Cert.Proof.Reference
open Idealize.ShloMosaic Cert.ReferenceIdeal Cert.ReferenceIdeal.Gen Cert.ReferenceIdeal.Read Cert.Proof.Spec

/-- A list sum over the first places, by place, is the frame at which a token ends. -/
theorem ends_list (w : Fin 1024 → Nat) (j : Fin 1024) :
    ((List.range (j.val + 1)).map fun n => if p : n < 1024 then w ⟨n, p⟩ else 0).sum = ends w j := by
  have hj := j.isLt
  let f : Nat → Nat := fun n => if p : n < 1024 then w ⟨n, p⟩ else 0
  have hf : ends w j = ∑ i : Fin 1024, (fun n => if n ≤ j.val then f n else 0) i.val := by
    refine Finset.sum_congr rfl fun i _ => if_congr Iff.rfl ?_ rfl
    exact (dif_pos (c := i.val < 1024) (t := fun p => w ⟨i.val, p⟩) (e := fun _ => 0) i.isLt).symm
  rw [hf, Fin.sum_univ_eq_sum_range (fun n => if n ≤ j.val then f n else 0) 1024, ← Finset.sum_filter]
  have hr : (Finset.range 1024).filter (fun n => n ≤ j.val) = Finset.range (j.val + 1) := by
    ext n
    rw [Finset.mem_filter, Finset.mem_range, Finset.mem_range]
    omega
  rw [hr]
  rfl

section
variable (x0 : (⟨S16x128x4096, .f32⟩ : BufTy).Contents (Elt Ideal)) (x2 : (⟨S16x1024, .i32⟩ : BufTy).Contents (Elt Ideal))

/-- The prefix sums of the durations are the frames at which the tokens end, as words. -/
theorem prefix_eq (b : Fin 16) (j : Fin 1024) : val_main_v0 (F := Ideal) x2 (ix2 b j) = BitVec.ofNat 32 (ends (durs x2 b) j) := by
  have hj := j.isLt
  unfold val_main_v0 Host.reduceWindow
  refine (Routing.foldl_addi_ofNat _ _
    (fun n => if 1023 ≤ j.val + n.val then (fun n => if p : n < 1024 then durs x2 b ⟨n, p⟩ else 0) (j.val + n.val - 1023) else 0)
    (fun n _ => ?_) _ 0 rfl).trans ?_
  · have hw0 : ((⟨2, ![1, 1024]⟩ : Shape).rowMajor.symm n 0).val = 0 := congrArg (fun i => (i 0 : Fin 1).val) (Routing.symm2 n)
    have hw1 : ((⟨2, ![1, 1024]⟩ : Shape).rowMajor.symm n 1).val = n.val := congrArg (fun i => (i 1 : Fin 1024).val) (Routing.symm2 n)
    have hn : n.val < 1024 := (n.cast (Routing.numel2 1024)).isLt
    have hb := b.isLt
    by_cases h : 1023 ≤ j.val + n.val
    · rw [if_pos h]
      dsimp only
      rw [dif_pos (by omega : j.val + n.val - 1023 < 1024)]
      refine (dif_pos fun a => ?_).trans ?_
      · match a with
        | ⟨0, _⟩ =>
          show 0 ≤ b.val * 1 + ((⟨2, ![1, 1024]⟩ : Shape).rowMajor.symm n 0).val
            ∧ b.val * 1 + ((⟨2, ![1, 1024]⟩ : Shape).rowMajor.symm n 0).val - 0 < 16
          rw [hw0]
          omega
        | ⟨1, _⟩ =>
          show 1023 ≤ j.val * 1 + ((⟨2, ![1, 1024]⟩ : Shape).rowMajor.symm n 1).val
            ∧ j.val * 1 + ((⟨2, ![1, 1024]⟩ : Shape).rowMajor.symm n 1).val - 1023 < 1024
          rw [hw1]
          omega
      · unfold durs
        rw [BitVec.ofNat_toNat, BitVec.setWidth_eq]
        refine congrArg x2 (funext fun a => Fin.ext ?_)
        match a with
        | ⟨0, _⟩ =>
          show b.val * 1 + ((⟨2, ![1, 1024]⟩ : Shape).rowMajor.symm n 0).val - 0 = b.val
          rw [hw0]
          omega
        | ⟨1, _⟩ =>
          show j.val * 1 + ((⟨2, ![1, 1024]⟩ : Shape).rowMajor.symm n 1).val - 1023 = j.val + n.val - 1023
          rw [hw1]
          omega
    · rw [if_neg h]
      refine (dif_neg fun ha => h ?_).trans rfl
      have h1 : 1023 ≤ j.val * 1 + ((⟨2, ![1, 1024]⟩ : Shape).rowMajor.symm n 1).val := (ha 1).1
      rw [hw1] at h1
      omega
  · rw [Nat.zero_add, Routing.map_finRange_val _
      (fun n => if 1023 ≤ j.val + n then (fun n => if p : n < 1024 then durs x2 b ⟨n, p⟩ else 0) (j.val + n - 1023) else 0)]
    refine congrArg (BitVec.ofNat 32) (Eq.trans ?_ (ends_list (durs x2 b) j))
    refine Eq.trans ?_ (Routing.sum_window (fun n => if p : n < 1024 then durs x2 b ⟨n, p⟩ else 0) 1023 j.val (by omega))
    exact congrArg (fun N => ((List.range N).map fun n =>
      if 1023 ≤ j.val + n then (fun n => if p : n < 1024 then durs x2 b ⟨n, p⟩ else 0) (j.val + n - 1023) else 0).sum) (Routing.numel2 1024)

/-- The count of the tokens that end by a frame. -/
theorem count_eq (hw : ∀ b j, durs x2 b j ≤ 1048576) (b : Fin 16) (t : Fin 4096) :
    (val_main_v8 (F := Ideal) x2 (ix2 b t)).toNat = seg (durs x2 b) t.val := by
  have ht := t.isLt
  pointwise [val_main_v8, val_main_c, val_main_v7, val_main_v6, val_main_v5, val_main_v4, val_main_v3, val_main_v2, val_main_v1]
  have hx : ∀ x : Fin 1024, (BitVec.setWidth 32 (IntOp.cmpi .sle (val_main_v0 (F := Ideal) x2 (ix2 b x)) (BitVec.ofNat 32 t.val))).toNat
      = if ends (durs x2 b) x ≤ t.val then 1 else 0 := fun x => by
    rw [prefix_eq, StableHlo.Predicate.toNat_setWidth_bit]
    exact if_congr (WordCmp.cmpi_sle_ofNat_eq_one_iff (ends_lt _ (hw b) x) (by omega)) rfl rfl
  have hs : (∑ x : Fin 1024, (BitVec.setWidth 32 (IntOp.cmpi .sle (val_main_v0 (F := Ideal) x2 (ix2 b x)) (BitVec.ofNat 32 t.val))).toNat)
      = seg (durs x2 b) t.val := by
    rw [seg, Finset.card_filter]
    exact Finset.sum_congr rfl fun x _ => hx x
  have hl := seg_le (durs x2 b) t.val
  rw [StableHlo.Predicate.toNat_fold_addi _ _ (by rw [hs]; omega), hs]

/-- The row a frame is sent to: its batch element. -/
theorem row_eq (b : Fin 16) (t : Fin 4096) : (val_main_v26 (F := Ideal) x2 (ix3 b t 0)).toInt = b.val := by
  have hb := b.isLt
  pointwise [val_main_v26, val_main_v24, val_main_v23, val_main_v17, val_main_v16, val_main_v15, val_main_v14, val_main_v13, val_main_v11,
    val_main_v9, val_main_c_0, val_main_c_1]
  have h : (BitVec.ofNat 32 b.val).toNat = b.val := WordCmp.toNat_ofNat_of_lt (by omega)
  rw [Routing.wrap_of_lt _ _ (by rw [h]; omega), WordCmp.toInt_eq_toNat_of_lt_half (by rw [h]; omega), h]

/-- The column a frame is sent to: the count of the tokens that end by it. -/
theorem column_eq (hw : ∀ b j, durs x2 b j ≤ 1048576) (b : Fin 16) (t : Fin 4096) :
    (val_main_v26 (F := Ideal) x2 (ix3 b t 1)).toInt = seg (durs x2 b) t.val := by
  pointwise [val_main_v26, val_main_v25, val_main_v22, val_main_v21, val_main_v20, val_main_v19, val_main_v18, val_main_c_2, val_main_c_3]
  have h := count_eq x2 hw b t
  have hl := seg_le (durs x2 b) t.val
  rw [Routing.wrap_of_lt _ _ (by rw [h]; omega), WordCmp.toInt_eq_toNat_of_lt_half (by rw [h]; omega), h]

end
end Cert.Proof.Reference
end
-- ==== Proof.RefPool.lean ====
/-
  The reference's pooling, from its index words: the frames summed into the rows that the words name, then divided by the durations.
-/
module

public import proofs.«01_k».proof.Proof.RefSegment

@[expose] public section
set_option maxRecDepth 16384
noncomputable section
namespace Cert.Proof.Reference
open Idealize.ShloMosaic Cert.ReferenceIdeal Cert.ReferenceIdeal.Gen Cert.ReferenceIdeal.Read Cert.Proof.Spec

/-- Where an update lands: at the place its two index words name, in its own channel. -/
theorem lands (idx : IVec S16x4096x2 32) (b' : Fin 16) (t : Fin 4096) (c' : Fin 128) (b : Fin 16) (j : Fin 1025) (c : Fin 128) :
    scatter_S16x1025x128_S16x4096x2_S16x4096x128_2_01_01_2.resultIdx? (ix3 b' t c') idx = some (ix3 b j c)
      ↔ (idx (ix3 b' t 0)).toInt = b.val ∧ (idx (ix3 b' t 1)).toInt = j.val ∧ c' = c := by
  have s0 : scatter_S16x1025x128_S16x4096x2_S16x4096x128_2_01_01_2.start (ix3 b' t c') idx 0 = (idx (ix3 b' t 0)).toInt := by
    refine congrArg (fun i => (idx i).toInt) (funext fun a => ?_)
    fin_cases a <;> rfl
  have s1 : scatter_S16x1025x128_S16x4096x2_S16x4096x128_2_01_01_2.start (ix3 b' t c') idx 1 = (idx (ix3 b' t 1)).toInt := by
    refine congrArg (fun i => (idx i).toInt) (funext fun a => ?_)
    fin_cases a <;> rfl
  have s2 : scatter_S16x1025x128_S16x4096x2_S16x4096x128_2_01_01_2.start (ix3 b' t c') idx 2 = 0 := rfl
  have w0 : scatter_S16x1025x128_S16x4096x2_S16x4096x128_2_01_01_2.window (ix3 b' t c') 0 = 0 := rfl
  have w1 : scatter_S16x1025x128_S16x4096x2_S16x4096x128_2_01_01_2.window (ix3 b' t c') 1 = 0 := rfl
  have w2 : scatter_S16x1025x128_S16x4096x2_S16x4096x128_2_01_01_2.window (ix3 b' t c') 2 = c'.val := rfl
  rw [Routing.resultIdx?_eq_some]
  constructor
  · intro h
    have h0 := h 0
    have h1 := h 1
    have h2 := h 2
    rw [s0, w0] at h0
    rw [s1, w1] at h1
    rw [s2, w2] at h2
    refine ⟨?_, ?_, Fin.ext ?_⟩
    · simpa using h0
    · simpa using h1
    · have : ((c'.val : Int)) = c.val := by simpa using h2
      omega
  · rintro ⟨h0, h1, rfl⟩ a
    match a with
    | ⟨0, _⟩ => exact (congrArg₂ (fun p (q : Nat) => p + (q : Int)) s0 w0).trans (by simpa using h0)
    | ⟨1, _⟩ => exact (congrArg₂ (fun p (q : Nat) => p + (q : Int)) s1 w1).trans (by simpa using h1)
    | ⟨2, _⟩ => exact (congrArg₂ (fun p (q : Nat) => p + (q : Int)) s2 w2).trans (by simp)

/-- A scatter that sums, read at a place: only the updates of one row and one channel whose count is the column land there. -/
theorem scatter_sum (d : ScatterDims S16x1025x128 S16x4096x2 S16x4096x128) (x : FVec Ideal S16x1025x128 .f32) (idx : IVec S16x4096x2 32)
    (upd : FVec Ideal S16x4096x128 .f32) (s : Fin 16 → Fin 4096 → Nat) (b : Fin 16) (j : Fin 1025) (c : Fin 128) (hx : x (ix3 b j c) = 0)
    (hc : ∀ b' t c', d.resultIdx? (ix3 b' t c') idx = some (ix3 b j c) ↔ b' = b ∧ s b' t = j.val ∧ c' = c) :
    Host.scatterAdd (F := Ideal) d x idx upd (ix3 b j c) = ∑ t : Fin 4096, if s b t = j.val then upd (ix3 b t c) else 0 := by
  show x (ix3 b j c) + ∑ k ∈ Finset.univ.filter (fun k => d.resultIdx? k idx = some (ix3 b j c)), upd k = _
  rw [hx, zero_add, Finset.sum_filter, sum_idx3]
  refine (Finset.sum_eq_single b (fun b' _ h => Finset.sum_eq_zero fun t _ => Finset.sum_eq_zero fun c' _ =>
    if_neg fun h' => h ((hc b' t c').1 h').1) fun h => absurd (Finset.mem_univ b) h).trans ?_
  refine Finset.sum_congr rfl fun t _ => ?_
  refine (Finset.sum_eq_single c (fun c' _ h => if_neg fun h' => h ((hc b t c').1 h').2.2) fun h => absurd (Finset.mem_univ c) h).trans ?_
  exact if_congr ((hc b t c).trans ⟨fun h => h.2.1, fun h => ⟨rfl, h, rfl⟩⟩) rfl rfl

section
variable (x0 : (⟨S16x128x4096, .f32⟩ : BufTy).Contents (Elt Ideal)) (x2 : (⟨S16x1024, .i32⟩ : BufTy).Contents (Elt Ideal))

/-- The table that the sums start from is zero. -/
theorem start_eq (b : Fin 16) (j : Fin 1025) (c : Fin 128) : val_main_v10 (F := Ideal) (ix3 b j c) = 0 := by
  pointwise [val_main_v10, val_main_cst]

/-- The updates are the frames, channels last. -/
theorem frames_eq (b : Fin 16) (t : Fin 4096) (c : Fin 128) : val_main_v12 (F := Ideal) x0 (ix3 b t c) = x0 (ix3 b c t) := by
  pointwise [val_main_v12]

/-- Frame `t` of batch element `b'` lands in the row of its batch element, the column of its count, and its channel. -/
theorem frame_lands (hw : ∀ b j, durs x2 b j ≤ 1048576) (b' : Fin 16) (t : Fin 4096) (c' : Fin 128) (b : Fin 16) (j : Fin 1025) (c : Fin 128) :
    scatter_S16x1025x128_S16x4096x2_S16x4096x128_2_01_01_2.resultIdx? (ix3 b' t c') (val_main_v26 (F := Ideal) x2) = some (ix3 b j c)
      ↔ b' = b ∧ seg (durs x2 b') t.val = j.val ∧ c' = c := by
  rw [lands, row_eq, column_eq x2 hw, Int.natCast_inj, Int.natCast_inj, ← Fin.ext_iff]

/-- The sums of the frames, by batch element, count and channel. -/
theorem sums_eq (hw : ∀ b j, durs x2 b j ≤ 1048576) (b : Fin 16) (j : Fin 1025) (c : Fin 128) :
    val_main_v27 (F := Ideal) x0 x2 (ix3 b j c) = ∑ t : Fin 4096, if seg (durs x2 b) t.val = j.val then x0 (ix3 b c t) else 0 := by
  unfold val_main_v27
  refine (scatter_sum _ _ _ _ (fun b t => seg (durs x2 b) t.val) b j c (start_eq b j c)
    fun b' t c' => frame_lands x2 hw b' t c' b j c).trans ?_
  exact Finset.sum_congr rfl fun t _ => by rw [frames_eq]

/-- The larger of a positive word and one is the word. -/
theorem maxsi_one (x : BitVec 32) (h1 : 1 ≤ x.toNat) (h2 : x.toNat < 2 ^ 31) : IntOp.maxsi x 1#32 = x := by
  unfold IntOp.maxsi
  split
  · rfl
  · next h =>
    rw [BitVec.slt_eq_decide, decide_eq_true_iff, WordCmp.toInt_eq_toNat_of_lt_half h2] at h
    have e : (1#32 : BitVec 32).toInt = 1 := rfl
    rw [e] at h
    refine BitVec.eq_of_toNat_eq ?_
    show 1 = x.toNat
    omega

/-- A sum divided by a duration, where that is not zero, is the sum times the reciprocal of the duration or of one. -/
theorem mean_word (S z : EReal) (x : BitVec 32) (hx : x.toNat < 2 ^ 31) (hz : x.toNat = 0 → S * (((1 : ℝ) / ((max x.toNat 1 : Nat) : ℝ) : ℝ) : EReal) = z) :
    Scalar.select (IntOp.cmpi .sge x 1#32) (Ideal.div S (FloatOps.sitofp (F := Ideal) .f32 (IntOp.maxsi x 1#32))) z
      = S * (((1 : ℝ) / ((max x.toNat 1 : Nat) : ℝ) : ℝ) : EReal) := by
  have h1 : (1#32 : BitVec 32).toNat < 2 ^ (32 - 1) := by decide
  have h1' : (1#32 : BitVec 32).toNat = 1 := rfl
  rw [WordCmp.cmpi_sge_of_lt hx h1, WordCmp.select_decide, h1']
  by_cases h : 1 ≤ x.toNat
  · have hne : ((x.toNat : ℝ)) ≠ 0 := Nat.cast_ne_zero.2 (by omega)
    rw [if_pos h, maxsi_one _ h hx, Kernel.sitofp_toNat _ hx, Ideal.div_coe hne, max_eq_left h]
  · rw [if_neg h, hz (by omega)]

/-- The pooled table: the mean of each channel over the frames of each token. -/
theorem pool_eq (hw : ∀ b j, durs x2 b j ≤ 1048576) (b : Fin 16) (c : Fin 128) (j : Fin 1024) :
    val_main_v39 (F := Ideal) x0 x2 (ix3 b c j) = Spec.pool (fun c t => x0 (ix3 b c t)) (durs x2 b) c j := by
  have hd : (x2 (ix2 b j)).toNat < 2 ^ 31 := lt_of_le_of_lt (hw b j) (by norm_num)
  pointwise [val_main_v39, val_main_v38, val_main_v37, val_main_v36, val_main_v35, val_main_v34, val_main_v33, val_main_v32, val_main_v31,
    val_main_v30, val_main_v29, val_main_v28, val_main_c_4, val_main_c_5, val_main_call1_v1, val_main_call1_v2, val_main_call1_v0, val_main_cst_6]
  have hs : (∑ t : Fin 4096, if seg (durs x2 b) t.val = j.val then x0 (ix3 b c t) else 0)
      = ∑ t : Fin 4096, if Holds (durs x2 b) j t.val then x0 (ix3 b c t) else 0 :=
    Finset.sum_congr rfl fun t _ => if_congr (seg_eq_iff _ _ _) rfl rfl
  rw [sums_eq x0 x2 hw, hs]
  refine mean_word _ _ _ hd fun h0 => ?_
  rw [Finset.sum_eq_zero fun t _ => if_neg (not_holds_of_zero _ _ _ h0), zero_mul]
  exact Ideal.ofBits_zero_f32.symm

end
end Cert.Proof.Reference
end
-- ==== Proof.RefLayers.lean ====
/-
  The reference's layers, one at a time: each takes the table of the layer before it, read at one batch element, to its own table.
-/
module

public import proofs.«01_k».proof.Proof.Gen.ReferenceIdeal.Read
public import proofs.«01_k».proof.Proof.Result
public import Idealize.ShloMosaic.Lib.Pointwise

@[expose] public section
set_option maxRecDepth 16384
noncomputable section
namespace Cert.Proof.Reference
open Idealize.ShloMosaic Cert.ReferenceIdeal Cert.ReferenceIdeal.Gen Cert.ReferenceIdeal.Read Cert.Proof.Spec

/-- The integer zero as a float. -/
theorem sitofp_zero : FloatOps.sitofp (F := Ideal) FTy.f32 0#32 = 0 := by
  show (((0#32).toInt : ℝ) : EReal) = 0
  simp

/-- The first tap over a padded row: the entry before, or nothing at the start. -/
theorem tap_prev (h : Tab 128) (a : Fin 128 → EReal) (l : Fin 1024) :
    (∑ x, (if p : 1 ≤ l.val ∧ l.val - 1 < 1024 then h x ⟨l.val - 1, p.2⟩ else FloatOps.sitofp (F := Ideal) FTy.f32 0#32) * a x)
      = ∑ c, if 1 ≤ l.val then a c * h c ⟨(l.val + 1023) % 1024, Nat.mod_lt _ (by decide)⟩ else 0 := by
  have hl := l.isLt
  refine Finset.sum_congr rfl fun c _ => ?_
  by_cases h1 : 1 ≤ l.val
  · rw [dif_pos ⟨h1, by omega⟩, if_pos h1, mul_comm]
    exact congrArg (fun q => a c * h c q) (Fin.ext (by show l.val - 1 = (l.val + 1023) % 1024; omega))
  · rw [dif_neg (fun p => h1 p.1), if_neg h1, sitofp_zero, zero_mul]

/-- The last tap over a padded row: the entry after, or nothing at the end. -/
theorem tap_next (h : Tab 128) (a : Fin 128 → EReal) (l : Fin 1024) :
    (∑ x, (if p : 1 ≤ 2 + l.val ∧ 2 + l.val - 1 < 1024 then h x ⟨2 + l.val - 1, p.2⟩ else FloatOps.sitofp (F := Ideal) FTy.f32 0#32) * a x)
      = ∑ c, if l.val < 1023 then a c * h c ⟨(l.val + 1) % 1024, Nat.mod_lt _ (by decide)⟩ else 0 := by
  refine Finset.sum_congr rfl fun c _ => ?_
  by_cases h1 : l.val < 1023
  · rw [dif_pos ⟨by omega, by omega⟩, if_pos h1, mul_comm]
    exact congrArg (fun q => a c * h c q) (Fin.ext (by show 2 + l.val - 1 = (l.val + 1) % 1024; omega))
  · rw [dif_neg (fun p => h1 (by omega)), if_neg h1, sitofp_zero, zero_mul]

/-- The number of channels, less a correction of zero. -/
theorem chans_sub : Ideal.ofBits FTy.f32 1124073472#32 - FloatOps.sitofp (F := Ideal) FTy.f32 0#32 = chans := by
  rw [sitofp_zero, sub_zero]
  rfl

/-- The number of channels is positive. -/
theorem chans_pos : 0 < chans := by
  rw [chans_eq]
  exact_mod_cast (by norm_num : (0 : ℝ) < 128)

section
variable (x0 : (⟨S16x128x4096, .f32⟩ : BufTy).Contents (Elt Ideal)) (x1 : (⟨S16x1x1024, .f32⟩ : BufTy).Contents (Elt Ideal))
  (x2 : (⟨S16x1024, .i32⟩ : BufTy).Contents (Elt Ideal)) (x3 : (⟨S128x128x1, .f32⟩ : BufTy).Contents (Elt Ideal))
  (x4 : (⟨S128, .f32⟩ : BufTy).Contents (Elt Ideal)) (x5 : (⟨S128x128x3, .f32⟩ : BufTy).Contents (Elt Ideal))
  (x6 x7 x8 : (⟨S128, .f32⟩ : BufTy).Contents (Elt Ideal)) (x9 : (⟨S128x128x3, .f32⟩ : BufTy).Contents (Elt Ideal))
  (x10 x11 x12 : (⟨S128, .f32⟩ : BufTy).Contents (Elt Ideal)) (x13 : (⟨S4x128, .f32⟩ : BufTy).Contents (Elt Ideal))
  (x14 : (⟨S4, .f32⟩ : BufTy).Contents (Elt Ideal))
  (hm : ∀ i, x1 i = 1) (b : Fin 16) (h : Tab 128)
include hm

/-- The convolution of one tap. -/
theorem project_eq (h39 : ∀ c l, val_main_v39 (F := Ideal) x0 x2 (ix3 b c l) = h c l) (o : Fin 128) (l : Fin 1024) :
    val_main_v47 (F := Ideal) x0 x1 x2 x3 x4 (ix3 b o l) = lin (fun o c => x3 (ix3 o c 0)) (fun o => x4 (ix1 o)) h o l := by
  pointwise [val_main_v47, val_main_v46, val_main_v45, val_main_v44, val_main_v43, val_main_v42, val_main_v41, val_main_v40]
  rw [hm, mul_one]
  simp only [h39]
  exact congrArg (· + x4 (ix1 o)) (Finset.sum_congr rfl fun c _ => mul_comm _ _)

/-- The first convolution of three taps, with its positive part. -/
theorem conv_first_eq (hin : ∀ c l, val_main_v47 (F := Ideal) x0 x1 x2 x3 x4 (ix3 b c l) = h c l) (o : Fin 128) (l : Fin 1024) :
    val_main_v73 (F := Ideal) x0 x1 x2 x3 x4 x5 x6 (ix3 b o l)
      = conv (fun k o c => x5 (ix3 o c k)) (fun o => x6 (ix1 o)) h o l := by
  pointwise [
    val_main_v73, val_main_v72, val_main_v71, val_main_v70, val_main_v69, val_main_v68, val_main_v67, val_main_v66, val_main_v65, val_main_v64,
    val_main_v63, val_main_v62, val_main_v61, val_main_v60, val_main_v59, val_main_v58, val_main_v57, val_main_v56, val_main_v55, val_main_v54,
    val_main_v53, val_main_v52, val_main_v51, val_main_v50, val_main_v49, val_main_v48, val_main_call2_v0, val_main_c_7, val_main_call3_v0,
    val_main_call3_cst]
  rw [hm, mul_one, mul_one]
  simp only [hin]
  rw [tap_prev h (fun c => x5 (ix3 o c 0)) l, tap_next h (fun c => x5 (ix3 o c 2)) l,
    Finset.sum_congr rfl fun c _ => mul_comm (h c l) (x5 (ix3 o c 1))]
  rfl

omit hm in
/-- The mean of the first layer normalisation. -/
theorem mean_first_eq (hin : ∀ c l, val_main_v73 (F := Ideal) x0 x1 x2 x3 x4 x5 x6 (ix3 b c l) = h c l) (l : Fin 1024) :
    val_main_v77 (F := Ideal) x0 x1 x2 x3 x4 x5 x6 (ix3 b 0 l) = mean h l := by
  pointwise [
    val_main_v77, val_main_v76, val_main_cst_9, val_main_v75, val_main_v74, val_main_cst_8]
  simp only [hin]
  rfl

omit hm in
/-- The variance of the first layer normalisation. -/
theorem var_first_eq (hin : ∀ c l, val_main_v73 (F := Ideal) x0 x1 x2 x3 x4 x5 x6 (ix3 b c l) = h c l) (l : Fin 1024) :
    val_main_v78 (F := Ideal) x0 x1 x2 x3 x4 x5 x6 (ix3 b 0 l) = var h l := by
  pointwise [
    val_main_v78, val_main_call4_call0_v1, val_main_call4_call0_v0, val_main_call4_cst_4, val_main_call4_v13, val_main_call4_cst_3,
    val_main_call4_v12, val_main_call4_v11, val_main_call4_v10, val_main_call4_v9, val_main_call4_cst_2, val_main_call4_v8, val_main_call4_cst_1,
    val_main_call4_v7, val_main_c_10, val_main_call4_v6, val_main_call4_v5, val_main_call4_v4, val_main_call4_v3, val_main_call4_v2,
    val_main_call4_v1, val_main_call4_v0, val_main_call4_cst_0, val_main_call4_cst]
  rw [chans_sub, if_pos chans_pos]
  simp only [hin]
  rfl

/-- The first layer normalisation. -/
theorem norm_first_eq (hin : ∀ c l, val_main_v73 (F := Ideal) x0 x1 x2 x3 x4 x5 x6 (ix3 b c l) = h c l) (o : Fin 128) (l : Fin 1024) :
    val_main_v95 (F := Ideal) x0 x1 x2 x3 x4 x5 x6 x7 x8 (ix3 b o l)
      = norm (fun o => x7 (ix1 o)) (fun o => x8 (ix1 o)) h o l := by
  pointwise [
    val_main_v95, val_main_v94, val_main_v93, val_main_v92, val_main_v91, val_main_v90, val_main_v89, val_main_v88, val_main_v87, val_main_v86,
    val_main_v85, val_main_v84, val_main_v83, val_main_v82, val_main_v81, val_main_v80, val_main_v79, val_main_cst_11]
  rw [hm, mul_one, mul_one]
  rw [mean_first_eq x0 x1 x2 x3 x4 x5 x6 b h hin, var_first_eq x0 x1 x2 x3 x4 x5 x6 b h hin, hin, norm_eq]
  rfl

/-- The second convolution of three taps, with its positive part. -/
theorem conv_second_eq (hin : ∀ c l, val_main_v95 (F := Ideal) x0 x1 x2 x3 x4 x5 x6 x7 x8 (ix3 b c l) = h c l) (o : Fin 128) (l : Fin 1024) :
    val_main_v121 (F := Ideal) x0 x1 x2 x3 x4 x5 x6 x7 x8 x9 x10 (ix3 b o l)
      = conv (fun k o c => x9 (ix3 o c k)) (fun o => x10 (ix1 o)) h o l := by
  pointwise [
    val_main_v121, val_main_v120, val_main_v119, val_main_v118, val_main_v117, val_main_v116, val_main_v115, val_main_v114, val_main_v113,
    val_main_v112, val_main_v111, val_main_v110, val_main_v109, val_main_v108, val_main_v107, val_main_v106, val_main_v105, val_main_v104,
    val_main_v103, val_main_v102, val_main_v101, val_main_v100, val_main_v99, val_main_v98, val_main_v97, val_main_v96, val_main_call5_v0,
    val_main_c_12, val_main_call6_v0, val_main_call6_cst]
  rw [hm, mul_one, mul_one]
  simp only [hin]
  rw [tap_prev h (fun c => x9 (ix3 o c 0)) l, tap_next h (fun c => x9 (ix3 o c 2)) l,
    Finset.sum_congr rfl fun c _ => mul_comm (h c l) (x9 (ix3 o c 1))]
  rfl

omit hm in
/-- The mean of the second layer normalisation. -/
theorem mean_second_eq (hin : ∀ c l, val_main_v121 (F := Ideal) x0 x1 x2 x3 x4 x5 x6 x7 x8 x9 x10 (ix3 b c l) = h c l) (l : Fin 1024) :
    val_main_v125 (F := Ideal) x0 x1 x2 x3 x4 x5 x6 x7 x8 x9 x10 (ix3 b 0 l) = mean h l := by
  pointwise [
    val_main_v125, val_main_v124, val_main_cst_14, val_main_v123, val_main_v122, val_main_cst_13]
  simp only [hin]
  rfl

omit hm in
/-- The variance of the second layer normalisation. -/
theorem var_second_eq (hin : ∀ c l, val_main_v121 (F := Ideal) x0 x1 x2 x3 x4 x5 x6 x7 x8 x9 x10 (ix3 b c l) = h c l) (l : Fin 1024) :
    val_main_v126 (F := Ideal) x0 x1 x2 x3 x4 x5 x6 x7 x8 x9 x10 (ix3 b 0 l) = var h l := by
  pointwise [
    val_main_v126, val_main_call7_call0_v1, val_main_call7_call0_v0, val_main_call7_cst_4, val_main_call7_v13, val_main_call7_cst_3,
    val_main_call7_v12, val_main_call7_v11, val_main_call7_v10, val_main_call7_v9, val_main_call7_cst_2, val_main_call7_v8, val_main_call7_cst_1,
    val_main_call7_v7, val_main_c_15, val_main_call7_v6, val_main_call7_v5, val_main_call7_v4, val_main_call7_v3, val_main_call7_v2,
    val_main_call7_v1, val_main_call7_v0, val_main_call7_cst_0, val_main_call7_cst]
  rw [chans_sub, if_pos chans_pos]
  simp only [hin]
  rfl

/-- The second layer normalisation. -/
theorem norm_second_eq (hin : ∀ c l, val_main_v121 (F := Ideal) x0 x1 x2 x3 x4 x5 x6 x7 x8 x9 x10 (ix3 b c l) = h c l) (o : Fin 128) (l : Fin 1024) :
    val_main_v141 (F := Ideal) x0 x1 x2 x3 x4 x5 x6 x7 x8 x9 x10 x11 x12 (ix3 b o l)
      = norm (fun o => x11 (ix1 o)) (fun o => x12 (ix1 o)) h o l := by
  pointwise [
    val_main_v141, val_main_v140, val_main_v139, val_main_v138, val_main_v137, val_main_v136, val_main_v135, val_main_v134, val_main_v133,
    val_main_v132, val_main_v131, val_main_v130, val_main_v129, val_main_v128, val_main_v127, val_main_cst_16]
  rw [hm, mul_one]
  rw [mean_second_eq x0 x1 x2 x3 x4 x5 x6 x7 x8 x9 x10 b h hin, var_second_eq x0 x1 x2 x3 x4 x5 x6 x7 x8 x9 x10 b h hin, hin, norm_eq]
  rfl

/-- The last linear map. -/
theorem head_eq (hin : ∀ c l, val_main_v141 (F := Ideal) x0 x1 x2 x3 x4 x5 x6 x7 x8 x9 x10 x11 x12 (ix3 b c l) = h c l)
    (o : Fin 4) (l : Fin 1024) :
    val_main_v148 (F := Ideal) x0 x1 x2 x3 x4 x5 x6 x7 x8 x9 x10 x11 x12 x13 x14 (ix3 b o l)
      = lin (fun o c => x13 (ix2 o c)) (fun o => x14 (ix1 o)) h o l := by
  pointwise [val_main_v148, val_main_v147, val_main_v146, val_main_v145, val_main_v144, val_main_v143, val_main_v142]
  rw [hm, mul_one]
  simp only [hin]
  rfl

end
end Cert.Proof.Reference
end
-- ==== Proof.RefValue.lean ====
/-
  The reference's result: its pooling and its layers put together.
-/
module

public import proofs.«01_k».proof.Proof.RefPool
public import proofs.«01_k».proof.Proof.RefLayers

@[expose] public section
set_option maxRecDepth 16384
noncomputable section
namespace Cert.Proof.Reference
open Idealize.ShloMosaic Cert.ReferenceIdeal Cert.ReferenceIdeal.Gen Cert.ReferenceIdeal.Read Cert.Proof.Spec

section
variable (x0 : (⟨S16x128x4096, .f32⟩ : BufTy).Contents (Elt Ideal)) (x1 : (⟨S16x1x1024, .f32⟩ : BufTy).Contents (Elt Ideal))
  (x2 : (⟨S16x1024, .i32⟩ : BufTy).Contents (Elt Ideal)) (x3 : (⟨S128x128x1, .f32⟩ : BufTy).Contents (Elt Ideal))
  (x4 : (⟨S128, .f32⟩ : BufTy).Contents (Elt Ideal)) (x5 : (⟨S128x128x3, .f32⟩ : BufTy).Contents (Elt Ideal))
  (x6 x7 x8 : (⟨S128, .f32⟩ : BufTy).Contents (Elt Ideal)) (x9 : (⟨S128x128x3, .f32⟩ : BufTy).Contents (Elt Ideal))
  (x10 x11 x12 : (⟨S128, .f32⟩ : BufTy).Contents (Elt Ideal)) (x13 : (⟨S4x128, .f32⟩ : BufTy).Contents (Elt Ideal))
  (x14 : (⟨S4, .f32⟩ : BufTy).Contents (Elt Ideal))

/-- THE REFERENCE'S RESULT, when every mask entry is one and every duration is in its range. -/
theorem value_eq (hm : ∀ i, x1 i = 1) (hw : ∀ b j, durs x2 b j ≤ 1048576) :
    val_main_v148 (F := Ideal) x0 x1 x2 x3 x4 x5 x6 x7 x8 x9 x10 x11 x12 x13 x14
      = result x0 x2 x3 x4 x5 x6 x7 x8 x9 x10 x11 x12 x13 x14 := by
  funext y
  rw [eq_ix3 y]
  generalize (y 0 : Fin 16) = b
  generalize (y 1 : Fin 4) = o
  generalize (y 2 : Fin 1024) = l
  have h39 := pool_eq x0 x2 hw b
  have h47 := project_eq x0 x1 x2 x3 x4 hm b _ h39
  have h73 := conv_first_eq x0 x1 x2 x3 x4 x5 x6 hm b _ h47
  have h95 := norm_first_eq x0 x1 x2 x3 x4 x5 x6 x7 x8 hm b _ h73
  have h121 := conv_second_eq x0 x1 x2 x3 x4 x5 x6 x7 x8 x9 x10 hm b _ h95
  have h141 := norm_second_eq x0 x1 x2 x3 x4 x5 x6 x7 x8 x9 x10 x11 x12 hm b _ h121
  exact head_eq x0 x1 x2 x3 x4 x5 x6 x7 x8 x9 x10 x11 x12 x13 x14 hm b _ h141 o l

end
end Cert.Proof.Reference
end
-- ==== Proof.Range.lean ====
/-
  What the precondition says: every mask entry is one, and every duration lies between zero and 1048576.
-/
module

public import proofs.«01_k».proof.Proof.Gen.Pre_drawn
public import proofs.«01_k».proof.Proof.Result
public import Idealize.ShloMosaic.Lib.ReduceAll
public import Idealize.ShloMosaic.Lib.WordCmp
public import Idealize.ShloMosaic.Lib.IdealHost

@[expose] public section
noncomputable section
namespace Cert.Proof.Range
open Idealize.ShloMosaic Cert.Pre_drawn Cert.Pre_drawn.Gen Cert.Proof.Spec

section
variable (a0 : FVec Ideal S16x128x4096 .f32) (a1 : FVec Ideal S16x1x1024 .f32) (a2 : IVec S16x1024 32) (a3 : FVec Ideal S128x128x1 .f32)
  (a4 : FVec Ideal S128 .f32) (a5 : FVec Ideal S128x128x3 .f32) (a6 a7 a8 : FVec Ideal S128 .f32) (a9 : FVec Ideal S128x128x3 .f32)
  (a10 a11 a12 : FVec Ideal S128 .f32) (a13 : FVec Ideal S4x128 .f32) (a14 : FVec Ideal S4 .f32)

/-- A word between zero and 1048576, read signed, is a number of at most 1048576. -/
theorem word_range (x : BitVec 32) (h : IntOp.andi (IntOp.cmpi .sge x 0#32) (IntOp.cmpi .sle x 1048576#32) = 1#1) : x.toNat ≤ 1048576 := by
  obtain ⟨h0, h1⟩ := IntOp.andi_eq_one.1 h
  rw [WordCmp.cmpi_sge_zero, WordCmp.ofBool_decide_eq_one_iff] at h0
  rw [WordCmp.cmpi_sle_of_lt h0 (by decide), WordCmp.ofBool_decide_eq_one_iff] at h1
  exact h1

/-- The precondition, entry by entry. -/
theorem of_pre [Facts] (h : fn (F := Ideal) a0 a1 a2 a3 a4 a5 a6 a7 a8 a9 a10 a11 a12 a13 a14 = fun _ => 1#1) :
    (∀ i, a1 i = 1) ∧ ∀ b j, durs a2 b j ≤ 1048576 := by
  haveI : Subsingleton S_.Idx := ⟨fun x y => funext fun a => a.elim0⟩
  obtain ⟨hm, hw⟩ := IntOp.andi_eq_one.1 (congrFun h ix0)
  constructor
  · intro i
    have e := Host.reduce_andi_all _ _ _ _ _ hm i
    have e' : Ideal.cmp .oeq (a1 i) (Ideal.ofBits .f32 0x3F800000#32) = 1#1 := e
    rw [Ideal.ofBits_one_f32] at e'
    exact (WordCmp.ofBool_decide_eq_one_iff (a1 i = 1)).1 e'
  · intro b j
    exact word_range _ (Host.reduce_andi_all _ _ _ _ _ hw (ix2 b j))

end
end Cert.Proof.Range
end
-- ==== Proof.lean ====
/-
  The proof of `Cert.Claim`. Every run of the kernel and of the reference ends with the arguments as they were, at the hardware's bits and over
  the extended reals; the two idealised results are equal wherever the mask is one and the durations are in their range: both are the predictor
  `Cert.Proof.Spec.result` of the arguments.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_drawn
public import proofs.«01_k».proof.Proof.KernelArray
public import proofs.«01_k».proof.Proof.RefValue
public import proofs.«01_k».proof.Proof.Range
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- Both idealised programs end with one result: the predictor of the arguments. -/
theorem values_agree : Cert.algebraic_KernelIdeal_ReferenceIdeal_pre_drawn (hKernelIdeal := Cert.KernelIdeal.Gen.facts)
    (hReferenceIdeal := Cert.ReferenceIdeal.Gen.facts) (hPre_drawn := Cert.Pre_drawn.Gen.facts) := by
  pair_intro
  · run_from (Cert.KernelIdeal.Value.run_blocks m g)
  · run_from (Cert.ReferenceIdeal.Value.run m' g')
    obtain ⟨hm, hw⟩ := Range.of_pre _ _ _ _ _ _ _ _ _ _ _ _ _ _ _ (hpre c)
    obtain ⟨e0, e1, e2, e3, e4, e5, e6, e7, e8, e9, e10, e11, e12, e13, e14⟩ := hagree c
    rw [← e1, ← e11, ← e12, ← e13, ← e14]
    rw [← e1] at hm
    refine (Cert.ReferenceIdeal.Read.val_main_v148_eq (StableHlo.launchContents m' c)).trans ?_
    refine Eq.trans ?_ (Kernel.final m c hw).symm
    rw [← e2] at hw
    refine (Reference.value_eq _ _ _ _ _ _ _ _ _ _ _ _ _ _ _ hm hw).trans ?_
    rw [← e0, ← e2, ← e3, ← e4, ← e5, ← e6, ← e7, ← e8, ← e9, ← e10, ← e11, ← e12, ← e13, ← e14]

/-- Every run of the reference ends with its arguments as they were and, as it has no semaphore, every counter at zero. -/
theorem reference_frame : Cert.quiescent_ReferenceIdeal (hReferenceIdeal := Cert.ReferenceIdeal.Gen.facts) := fun m g _ =>
  (θ_run Cert.ReferenceIdeal.defs _ _).mono (fun r h => ⟨fun c => (h c).2, sem_eq_zero_of_no_sems (by decide) r.2⟩)
    (Cert.ReferenceIdeal.Value.run (F := Ideal) m g)

/-- THE CLAIM. -/
theorem claim : Cert.Claim := ⟨Cert.Kernel.Gen.facts, Cert.KernelIdeal.Gen.facts, Cert.ReferenceIdeal.Gen.facts, Cert.Pre_drawn.Gen.facts,
  fun m g _ => Cert.Kernel.Gen.frame m g,
  fun m g _ => Cert.KernelIdeal.Gen.frame m g,
  fun m g _ => Cert.KernelIdeal.Gen.frame m g,
  reference_frame,
  fun m g _ => reference_frame m g trivial,
  trivial,
  values_agree⟩

end Cert.Proof

end
